-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "no_floor" .f32 0x0554AD2E#32 ⊥

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S16x256x4 : Shape := ⟨3, ![16, 256, 4]⟩
abbrev S16x256 : Shape := ⟨2, ![16, 256]⟩
abbrev S_ : Shape := ⟨0, ![]⟩

class Facts : Prop where
  bcast_S_S16x256x4 : S_.BroadcastsInDim S16x256x4 (![] : Fin 0 → Fin S16x256x4.rank)
  bcast_S_S16x256 : S_.BroadcastsInDim S16x256 (![] : Fin 0 → Fin S16x256.rank)

variable [Facts]

def fn {F : FTy → Type} [FloatOps F] (main_arg0 : FVec F S16x256x4 .f32) (main_arg1 : IVec S16x256 32) : IVec S16x256x4 1 × IVec S16x256 1 :=
  let main_v0 : FVec F S16x256x4 .f32 := Host.absf main_arg0
  let main_cst : FVec F S_ .f32 := constant S_ .f32 0x7F800000#32
  let main_v1 : FVec F S16x256x4 .f32 := broadcastInDim S16x256x4 ![] bcast_S_S16x256x4 main_cst
  let main_v2 : IVec S16x256x4 1 := cmpf .olt main_v0 main_v1
  let main_c : IVec S_ 32 := constantI S_ 32 0#32
  let main_v3 : IVec S16x256 32 := broadcastInDim S16x256 ![] bcast_S_S16x256 main_c
  let main_v4 : IVec S16x256 1 := cmpi .sge main_arg1 main_v3
  let main_c_0 : IVec S_ 32 := constantI S_ 32 4#32
  let main_v5 : IVec S16x256 32 := broadcastInDim S16x256 ![] bcast_S_S16x256 main_c_0
  let main_v6 : IVec S16x256 1 := cmpi .slt main_arg1 main_v5
  let main_v7 : IVec S16x256 1 := andi main_v4 main_v6
  (main_v2, main_v7)
-- ==== Kernel.lean ====
abbrev S16x256x4 : Shape := ⟨3, ![16, 256, 4]⟩
abbrev S16x256 : Shape := ⟨2, ![16, 256]⟩
abbrev S4x16x256 : Shape := ⟨3, ![4, 16, 256]⟩
abbrev S16x1 : Shape := ⟨2, ![16, 1]⟩
abbrev S16x255 : Shape := ⟨2, ![16, 255]⟩
abbrev S1x1 : Shape := ⟨2, ![1, 1]⟩
abbrev S_ : Shape := ⟨0, ![]⟩
abbrev S8x256 : Shape := ⟨2, ![8, 256]⟩
abbrev S1x16x256 : Shape := ⟨3, ![1, 16, 256]⟩
abbrev S8x1 : Shape := ⟨2, ![8, 1]⟩
abbrev S8x255 : Shape := ⟨2, ![8, 255]⟩
abbrev S8x2 : Shape := ⟨2, ![8, 2]⟩
abbrev S8x254 : Shape := ⟨2, ![8, 254]⟩
abbrev S8x3 : Shape := ⟨2, ![8, 3]⟩
abbrev S8x253 : Shape := ⟨2, ![8, 253]⟩
abbrev S8 : Shape := ⟨1, ![8]⟩
abbrev S8x4 : Shape := ⟨2, ![8, 4]⟩
abbrev S8x252 : Shape := ⟨2, ![8, 252]⟩
abbrev S8x5 : Shape := ⟨2, ![8, 5]⟩
abbrev S8x251 : Shape := ⟨2, ![8, 251]⟩
abbrev S8x6 : Shape := ⟨2, ![8, 6]⟩
abbrev S8x250 : Shape := ⟨2, ![8, 250]⟩
abbrev S8x7 : Shape := ⟨2, ![8, 7]⟩
abbrev S8x249 : Shape := ⟨2, ![8, 249]⟩
abbrev S8x8 : Shape := ⟨2, ![8, 8]⟩
abbrev S8x248 : Shape := ⟨2, ![8, 248]⟩
abbrev S8x9 : Shape := ⟨2, ![8, 9]⟩
abbrev S8x247 : Shape := ⟨2, ![8, 247]⟩
abbrev S8x10 : Shape := ⟨2, ![8, 10]⟩
abbrev S8x246 : Shape := ⟨2, ![8, 246]⟩
abbrev S8x11 : Shape := ⟨2, ![8, 11]⟩
abbrev S8x245 : Shape := ⟨2, ![8, 245]⟩
abbrev S8x12 : Shape := ⟨2, ![8, 12]⟩
abbrev S8x244 : Shape := ⟨2, ![8, 244]⟩
abbrev S8x13 : Shape := ⟨2, ![8, 13]⟩
abbrev S8x243 : Shape := ⟨2, ![8, 243]⟩
abbrev S8x14 : Shape := ⟨2, ![8, 14]⟩
abbrev S8x242 : Shape := ⟨2, ![8, 242]⟩
abbrev S8x15 : Shape := ⟨2, ![8, 15]⟩
abbrev S8x241 : Shape := ⟨2, ![8, 241]⟩
abbrev S8x16 : Shape := ⟨2, ![8, 16]⟩
abbrev S8x240 : Shape := ⟨2, ![8, 240]⟩
abbrev S8x17 : Shape := ⟨2, ![8, 17]⟩
abbrev S8x239 : Shape := ⟨2, ![8, 239]⟩
abbrev S8x18 : Shape := ⟨2, ![8, 18]⟩
abbrev S8x238 : Shape := ⟨2, ![8, 238]⟩
abbrev S8x19 : Shape := ⟨2, ![8, 19]⟩
abbrev S8x237 : Shape := ⟨2, ![8, 237]⟩
abbrev S8x20 : Shape := ⟨2, ![8, 20]⟩
abbrev S8x236 : Shape := ⟨2, ![8, 236]⟩
abbrev S8x21 : Shape := ⟨2, ![8, 21]⟩
abbrev S8x235 : Shape := ⟨2, ![8, 235]⟩
abbrev S8x22 : Shape := ⟨2, ![8, 22]⟩
abbrev S8x234 : Shape := ⟨2, ![8, 234]⟩
abbrev S8x23 : Shape := ⟨2, ![8, 23]⟩
abbrev S8x233 : Shape := ⟨2, ![8, 233]⟩
abbrev S8x24 : Shape := ⟨2, ![8, 24]⟩
abbrev S8x232 : Shape := ⟨2, ![8, 232]⟩
abbrev S8x25 : Shape := ⟨2, ![8, 25]⟩
abbrev S8x231 : Shape := ⟨2, ![8, 231]⟩
abbrev S8x26 : Shape := ⟨2, ![8, 26]⟩
abbrev S8x230 : Shape := ⟨2, ![8, 230]⟩
abbrev S8x27 : Shape := ⟨2, ![8, 27]⟩
abbrev S8x229 : Shape := ⟨2, ![8, 229]⟩
abbrev S8x28 : Shape := ⟨2, ![8, 28]⟩
abbrev S8x228 : Shape := ⟨2, ![8, 228]⟩
abbrev S8x29 : Shape := ⟨2, ![8, 29]⟩
abbrev S8x227 : Shape := ⟨2, ![8, 227]⟩
abbrev S8x30 : Shape := ⟨2, ![8, 30]⟩
abbrev S8x226 : Shape := ⟨2, ![8, 226]⟩
abbrev S8x31 : Shape := ⟨2, ![8, 31]⟩
abbrev S8x225 : Shape := ⟨2, ![8, 225]⟩
abbrev S8x32 : Shape := ⟨2, ![8, 32]⟩
abbrev S8x224 : Shape := ⟨2, ![8, 224]⟩
abbrev S1x8x1 : Shape := ⟨3, ![1, 8, 1]⟩
abbrev S1 : Shape := ⟨1, ![1]⟩
abbrev S1x1x1 : Shape := ⟨3, ![1, 1, 1]⟩

abbrev nBuf : Space → Nat
  | .hbm => 9
  | .vmem => 3
  | .smem => 0
  | _ => 0

abbrev bufTy : (tb : Table) → Fin (tcTables nBuf tb) → BufTy
  | .hbm, ⟨0, _⟩ => ⟨S16x256x4, .f32⟩
  | .hbm, ⟨1, _⟩ => ⟨S16x256, .i32⟩
  | .hbm, ⟨2, _⟩ => ⟨S4x16x256, .f32⟩
  | .hbm, ⟨3, _⟩ => ⟨S16x1, .i32⟩
  | .hbm, ⟨4, _⟩ => ⟨S16x255, .i32⟩
  | .hbm, ⟨5, _⟩ => ⟨S16x255, .i32⟩
  | .hbm, ⟨6, _⟩ => ⟨S16x256, .i32⟩
  | .hbm, ⟨7, _⟩ => ⟨S1x1, .f32⟩
  | .hbm, ⟨8, _⟩ => ⟨S_, .f32⟩
  | .local _ .vmem, ⟨0, _⟩ => ⟨S4x16x256, .f32⟩
  | .local _ .vmem, ⟨1, _⟩ => ⟨S16x256, .i32⟩
  | .local _ .vmem, ⟨2, _⟩ => ⟨S1x1, .f32⟩
  | _, _ => ⟨S16x256x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v222 : BitVec 32 := Scalar.addi c0_i32 c16_i32
  let c1_i32 : BitVec 32 := 1#32
  ⟨c0_i32, v222, c1_i32⟩
abbrev stage0_0 : Fin 1 → Memref sig .tc .vmem S4x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "no_floor" => some ⊥
  | _ => none
-- ==== ReferenceIdeal.lean ====
abbrev S16x256x4 : Shape := ⟨3, ![16, 256, 4]⟩
abbrev S16x256 : Shape := ⟨2, ![16, 256]⟩
abbrev S_ : Shape := ⟨0, ![]⟩
abbrev S16x256x1 : Shape := ⟨3, ![16, 256, 1]⟩
abbrev S1x1x4 : Shape := ⟨3, ![1, 1, 4]⟩
abbrev S16x256x256 : Shape := ⟨3, ![16, 256, 256]⟩
abbrev S16x255x255 : Shape := ⟨3, ![16, 255, 255]⟩
abbrev S255 : Shape := ⟨1, ![255]⟩
abbrev S255x1 : Shape := ⟨2, ![255, 1]⟩
abbrev S1x255 : Shape := ⟨2, ![1, 255]⟩
abbrev S255x255 : Shape := ⟨2, ![255, 255]⟩
abbrev S16x509x255 : Shape := ⟨3, ![16, 509, 255]⟩
abbrev S255x255x1 : Shape := ⟨3, ![255, 255, 1]⟩
abbrev S255x255x2 : Shape := ⟨3, ![255, 255, 2]⟩
abbrev S509x16x255 : Shape := ⟨3, ![509, 16, 255]⟩
abbrev S509 : Shape := ⟨1, ![509]⟩
abbrev S2x16x255x3 : Shape := ⟨4, ![2, 16, 255, 3]⟩
abbrev S509x16x255x3 : Shape := ⟨4, ![509, 16, 255, 3]⟩
abbrev S1x16x255 : Shape := ⟨3, ![1, 16, 255]⟩
abbrev S16x255 : Shape := ⟨2, ![16, 255]⟩
abbrev S1 : Shape := ⟨1, ![1]⟩
abbrev S1x16x255x3 : Shape := ⟨4, ![1, 16, 255, 3]⟩
abbrev S16x255x3 : Shape := ⟨3, ![16, 255, 3]⟩
abbrev S3 : Shape := ⟨1, ![3]⟩
abbrev S16x255x4 : Shape := ⟨3, ![16, 255, 4]⟩
abbrev S16x255x1 : Shape := ⟨3, ![16, 255, 1]⟩
abbrev S16x254x3 : Shape := ⟨3, ![16, 254, 3]⟩
abbrev S1x1x3 : Shape := ⟨3, ![1, 1, 3]⟩
abbrev S16x255x2 : Shape := ⟨3, ![16, 255, 2]⟩
abbrev S16 : Shape := ⟨1, ![16]⟩
abbrev S1x16x1x1 : Shape := ⟨4, ![1, 16, 1, 1]⟩

abbrev nBuf : Space → Nat
  | .hbm => 253
  | .vmem => 0
  | .smem => 0
  | _ => 0

abbrev hbmTy0_0 (i : Nat) : BufTy := match i % 128 with
  | 0 => ⟨S16x256x4, .f32⟩
  | 1 => ⟨S16x256, .i32⟩
  | 2 => ⟨S_, .f32⟩
  | 3 => ⟨S_, .f32⟩
  | 4 => ⟨S_, .f32⟩
  | 5 => ⟨S_, .f32⟩
  | 6 => ⟨S16x256x1, .i32⟩
  | 7 => ⟨S1x1x4, .i32⟩
  | 8 => ⟨S16x256x4, .i32⟩
  | 9 => ⟨S16x256x4, .i32⟩
  | 10 => ⟨S16x256x4, .i1⟩
  | 11 => ⟨S16x256x4, .f32⟩
  | 12 => ⟨S16x256x256, .f32⟩
  | 13 => ⟨S16x255x255, .f32⟩
  | 14 => ⟨S255, .i32⟩
  | 15 => ⟨S_, .i32⟩
  | 16 => ⟨S255, .i32⟩
  | 17 => ⟨S255, .i32⟩
  | 18 => ⟨S_, .i32⟩
  | 19 => ⟨S255, .i32⟩
  | 20 => ⟨S255, .i32⟩
  | 21 => ⟨S255x1, .i32⟩
  | 22 => ⟨S255, .i32⟩
  | 23 => ⟨S1x255, .i32⟩
  | 24 => ⟨S255x255, .i32⟩
  | 25 => ⟨S255x255, .i32⟩
  | 26 => ⟨S255x255, .i32⟩
  | 27 => ⟨S_, .i32⟩
  | 28 => ⟨S255x255, .i32⟩
  | 29 => ⟨S255x255, .i32⟩
  | 30 => ⟨S255x255, .i32⟩
  | 31 => ⟨S255x255, .i32⟩
  | 32 => ⟨S255x255, .i32⟩
  | 33 => ⟨S_, .i32⟩
  | 34 => ⟨S255x255, .i32⟩
  | 35 => ⟨S255x255, .i32⟩
  | 36 => ⟨S_, .f32⟩
  | 37 => ⟨S16x509x255, .f32⟩
  | 38 => ⟨S_, .i32⟩
  | 39 => ⟨S255x255, .i32⟩
  | 40 => ⟨S255x255, .i1⟩
  | 41 => ⟨S_, .i32⟩
  | 42 => ⟨S255x255, .i32⟩
  | 43 => ⟨S255x255, .i32⟩
  | 44 => ⟨S255x255, .i32⟩
  | 45 => ⟨S_, .i32⟩
  | 46 => ⟨S255x255, .i32⟩
  | 47 => ⟨S255x255, .i1⟩
  | 48 => ⟨S_, .i32⟩
  | 49 => ⟨S255x255, .i32⟩
  | 50 => ⟨S255x255, .i32⟩
  | 51 => ⟨S255x255, .i32⟩
  | 52 => ⟨S255x255x1, .i32⟩
  | 53 => ⟨S255x255x1, .i32⟩
  | 54 => ⟨S255x255x2, .i32⟩
  | 55 => ⟨S16x509x255, .f32⟩
  | 56 => ⟨S509x16x255, .f32⟩
  | 57 => ⟨S16x255x255, .f32⟩
  | 58 => ⟨S255, .i32⟩
  | 59 => ⟨S_, .i32⟩
  | 60 => ⟨S255, .i32⟩
  | 61 => ⟨S255, .i32⟩
  | 62 => ⟨S_, .i32⟩
  | 63 => ⟨S255, .i32⟩
  | 64 => ⟨S255, .i32⟩
  | 65 => ⟨S255x1, .i32⟩
  | 66 => ⟨S255, .i32⟩
  | 67 => ⟨S1x255, .i32⟩
  | 68 => ⟨S255x255, .i32⟩
  | 69 => ⟨S255x255, .i32⟩
  | 70 => ⟨S255x255, .i32⟩
  | 71 => ⟨S_, .i32⟩
  | 72 => ⟨S255x255, .i32⟩
  | 73 => ⟨S255x255, .i32⟩
  | 74 => ⟨S255x255, .i32⟩
  | 75 => ⟨S255x255, .i32⟩
  | 76 => ⟨S255x255, .i32⟩
  | 77 => ⟨S_, .i32⟩
  | 78 => ⟨S255x255, .i32⟩
  | 79 => ⟨S255x255, .i32⟩
  | 80 => ⟨S_, .f32⟩
  | 81 => ⟨S16x509x255, .f32⟩
  | 82 => ⟨S_, .i32⟩
  | 83 => ⟨S255x255, .i32⟩
  | 84 => ⟨S255x255, .i1⟩
  | 85 => ⟨S_, .i32⟩
  | 86 => ⟨S255x255, .i32⟩
  | 87 => ⟨S255x255, .i32⟩
  | 88 => ⟨S255x255, .i32⟩
  | 89 => ⟨S_, .i32⟩
  | 90 => ⟨S255x255, .i32⟩
  | 91 => ⟨S255x255, .i1⟩
  | 92 => ⟨S_, .i32⟩
  | 93 => ⟨S255x255, .i32⟩
  | 94 => ⟨S255x255, .i32⟩
  | 95 => ⟨S255x255, .i32⟩
  | 96 => ⟨S255x255x1, .i32⟩
  | 97 => ⟨S255x255x1, .i32⟩
  | 98 => ⟨S255x255x2, .i32⟩
  | 99 => ⟨S16x509x255, .f32⟩
  | 100 => ⟨S509x16x255, .f32⟩
  | 101 => ⟨S509, .i32⟩
  | 102 => ⟨S_, .i32⟩
  | 103 => ⟨S509, .i32⟩
  | 104 => ⟨S509, .i32⟩
  | 105 => ⟨S_, .i32⟩
  | 106 => ⟨S509, .i32⟩
  | 107 => ⟨S509, .i32⟩
  | 108 => ⟨S_, .f32⟩
  | 109 => ⟨S2x16x255x3, .f32⟩
  | 110 => ⟨S_, .f32⟩
  | 111 => ⟨S509x16x255x3, .f32⟩
  | 112 => ⟨S_, .i32⟩
  | 113 => ⟨S509x16x255, .f32⟩
  | 114 => ⟨S509x16x255, .f32⟩
  | 115 => ⟨S509, .i32⟩
  | 116 => ⟨S_, .f32⟩
  | 117 => ⟨S_, .f32⟩
  | 118 => ⟨S_, .i32⟩
  | 119 => ⟨S2x16x255x3, .f32⟩
  | 120 => ⟨S509x16x255x3, .f32⟩
  | 121 => ⟨S_, .i32⟩
  | 122 => ⟨S_, .i1⟩
  | 123 => ⟨S_, .i32⟩
  | 124 => ⟨S_, .i32⟩
  | 125 => ⟨S1x16x255, .f32⟩
  | 126 => ⟨S16x255, .f32⟩
  | 127 => ⟨S_, .i32⟩
  | _ => ⟨S16x256x4, .f32⟩

abbrev hbmTy0_1 (i : Nat) : BufTy := match i % 128 with
  | 0 => ⟨S_, .i32⟩
  | 1 => ⟨S1x16x255, .f32⟩
  | 2 => ⟨S16x255, .f32⟩
  | 3 => ⟨S1, .i32⟩
  | 4 => ⟨S_, .i32⟩
  | 5 => ⟨S1x16x255x3, .f32⟩
  | 6 => ⟨S16x255x3, .f32⟩
  | 7 => ⟨S1x16x255x3, .f32⟩
  | 8 => ⟨S16x255x3, .f32⟩
  | 9 => ⟨S1, .f32⟩
  | 10 => ⟨S1, .f32⟩
  | 11 => ⟨S1, .f32⟩
  | 12 => ⟨S3, .f32⟩
  | 13 => ⟨S1, .f32⟩
  | 14 => ⟨S1, .f32⟩
  | 15 => ⟨S1, .f32⟩
  | 16 => ⟨S3, .f32⟩
  | 17 => ⟨S_, .i32⟩
  | 18 => ⟨S_, .f32⟩
  | 19 => ⟨S16x255x4, .f32⟩
  | 20 => ⟨S16x255x1, .f32⟩
  | 21 => ⟨S16x255x4, .f32⟩
  | 22 => ⟨S16x255x4, .f32⟩
  | 23 => ⟨S16x254x3, .f32⟩
  | 24 => ⟨S_, .f32⟩
  | 25 => ⟨S_, .f32⟩
  | 26 => ⟨S16x255x3, .f32⟩
  | 27 => ⟨S_, .i32⟩
  | 28 => ⟨S_, .i1⟩
  | 29 => ⟨S16x255x3, .f32⟩
  | 30 => ⟨S1x1x3, .f32⟩
  | 31 => ⟨S16x255x3, .f32⟩
  | 32 => ⟨S16x255x3, .f32⟩
  | 33 => ⟨S16x254x3, .f32⟩
  | 34 => ⟨S_, .f32⟩
  | 35 => ⟨S_, .f32⟩
  | 36 => ⟨S16x255x3, .f32⟩
  | 37 => ⟨S_, .i32⟩
  | 38 => ⟨S_, .i1⟩
  | 39 => ⟨S16x255x3, .f32⟩
  | 40 => ⟨S1x1x3, .f32⟩
  | 41 => ⟨S16x255x3, .f32⟩
  | 42 => ⟨S16x255x3, .f32⟩
  | 43 => ⟨S16x255x2, .f32⟩
  | 44 => ⟨S_, .f32⟩
  | 45 => ⟨S16x255, .f32⟩
  | 46 => ⟨S16x255x1, .f32⟩
  | 47 => ⟨S_, .f32⟩
  | 48 => ⟨S16x255x1, .f32⟩
  | 49 => ⟨S16x255x1, .i1⟩
  | 50 => ⟨S_, .f32⟩
  | 51 => ⟨S16x255x1, .f32⟩
  | 52 => ⟨S16x255x1, .f32⟩
  | 53 => ⟨S16x255x4, .f32⟩
  | 54 => ⟨S16x255x4, .f32⟩
  | 55 => ⟨S16x255x4, .f32⟩
  | 56 => ⟨S_, .f32⟩
  | 57 => ⟨S16x255, .f32⟩
  | 58 => ⟨S16x255x1, .f32⟩
  | 59 => ⟨S16x255x1, .f32⟩
  | 60 => ⟨S16x255x1, .f32⟩
  | 61 => ⟨S_, .f32⟩
  | 62 => ⟨S16x255, .f32⟩
  | 63 => ⟨S16x255x1, .f32⟩
  | 64 => ⟨S_, .f32⟩
  | 65 => ⟨S16x255x1, .f32⟩
  | 66 => ⟨S16x255x1, .i1⟩
  | 67 => ⟨S_, .f32⟩
  | 68 => ⟨S16x255x1, .f32⟩
  | 69 => ⟨S16x255x1, .f32⟩
  | 70 => ⟨S16x255x2, .f32⟩
  | 71 => ⟨S16x255x2, .f32⟩
  | 72 => ⟨S16x255x2, .f32⟩
  | 73 => ⟨S_, .f32⟩
  | 74 => ⟨S16x255, .f32⟩
  | 75 => ⟨S16x255x1, .f32⟩
  | 76 => ⟨S16x255x1, .f32⟩
  | 77 => ⟨S16x255x1, .f32⟩
  | 78 => ⟨S_, .f32⟩
  | 79 => ⟨S16x255, .f32⟩
  | 80 => ⟨S16x255x1, .f32⟩
  | 81 => ⟨S_, .f32⟩
  | 82 => ⟨S16x255x1, .f32⟩
  | 83 => ⟨S16x255x1, .i1⟩
  | 84 => ⟨S_, .f32⟩
  | 85 => ⟨S16x255x1, .f32⟩
  | 86 => ⟨S16x255x1, .f32⟩
  | 87 => ⟨S16x255x3, .f32⟩
  | 88 => ⟨S16x255x3, .f32⟩
  | 89 => ⟨S16x255x3, .f32⟩
  | 90 => ⟨S_, .f32⟩
  | 91 => ⟨S16x255, .f32⟩
  | 92 => ⟨S16x255x1, .f32⟩
  | 93 => ⟨S16x255x1, .f32⟩
  | 94 => ⟨S16x255x1, .f32⟩
  | 95 => ⟨S16x255x3, .f32⟩
  | 96 => ⟨S1x16x255x3, .f32⟩
  | 97 => ⟨S1x16x255x3, .f32⟩
  | 98 => ⟨S2x16x255x3, .f32⟩
  | 99 => ⟨S16x255x1, .f32⟩
  | 100 => ⟨S16x255x3, .f32⟩
  | 101 => ⟨S16x255x3, .f32⟩
  | 102 => ⟨S1x16x255x3, .f32⟩
  | 103 => ⟨S_, .i32⟩
  | 104 => ⟨S_, .i32⟩
  | 105 => ⟨S_, .i32⟩
  | 106 => ⟨S509x16x255x3, .f32⟩
  | 107 => ⟨S_, .i32⟩
  | 108 => ⟨S_, .i32⟩
  | 109 => ⟨S_, .f32⟩
  | 110 => ⟨S16, .f32⟩
  | 111 => ⟨S1x16x1x1, .f32⟩
  | 112 => ⟨S509x16x255x3, .f32⟩
  | 113 => ⟨S509x16x255x3, .f32⟩
  | 114 => ⟨S509x16x255x3, .f32⟩
  | 115 => ⟨S_, .f32⟩
  | 116 => ⟨S16, .f32⟩
  | 117 => ⟨S1x16x1x1, .f32⟩
  | 118 => ⟨S1x16x1x1, .f32⟩
  | 119 => ⟨S1x16x1x1, .f32⟩
  | 120 => ⟨S_, .f32⟩
  | 121 => ⟨S_, .f32⟩
  | 122 => ⟨S_, .f32⟩
  | 123 => ⟨S_, .f32⟩
  | 124 => ⟨S_, .f32⟩
  | _ => ⟨S16x256x4, .f32⟩

abbrev hbmTy (i : Nat) : BufTy := match i / 128 with
  | 0 => hbmTy0_0 i
  | 1 => hbmTy0_1 i
  | _ => ⟨S16x256x4, .f32⟩

abbrev bufTy : (tb : Table) → Fin (tcTables nBuf tb) → BufTy
  | .hbm, ⟨i, _⟩ => hbmTy i
  | _, _ => ⟨S16x256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_c_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_16 : Ref sig .tc := ⟨.hbm, 89, rfl⟩
abbrev main_v64 : Ref sig .tc := ⟨.hbm, 90, rfl⟩
abbrev main_v65 : Ref sig .tc := ⟨.hbm, 91, rfl⟩
abbrev main_c_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_18 : Ref sig .tc := ⟨.hbm, 102, rfl⟩
abbrev main_v75 : Ref sig .tc := ⟨.hbm, 103, rfl⟩
abbrev main_v76 : Ref sig .tc := ⟨.hbm, 104, rfl⟩
abbrev main_c_19 : Ref sig .tc := ⟨.hbm, 105, rfl⟩
abbrev main_v77 : Ref sig .tc := ⟨.hbm, 106, rfl⟩
abbrev main_v78 : Ref sig .tc := ⟨.hbm, 107, rfl⟩
abbrev main_cst_20 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_c_22 : Ref sig .tc := ⟨.hbm, 112, rfl⟩
abbrev main_v81_0 : Ref sig .tc := ⟨.hbm, 113, rfl⟩
abbrev main_v81_1 : Ref sig .tc := ⟨.hbm, 114, rfl⟩
abbrev main_v81_2 : Ref sig .tc := ⟨.hbm, 115, rfl⟩
abbrev main_v81_3 : Ref sig .tc := ⟨.hbm, 116, rfl⟩
abbrev main_v81_4 : Ref sig .tc := ⟨.hbm, 117, rfl⟩
abbrev main_v81_5 : Ref sig .tc := ⟨.hbm, 118, rfl⟩
abbrev main_v81_6 : Ref sig .tc := ⟨.hbm, 119, rfl⟩
abbrev main_v81_7 : Ref sig .tc := ⟨.hbm, 120, rfl⟩
abbrev main_while0c_c_34 : Ref sig .tc := ⟨.hbm, 121, rfl⟩
abbrev main_while0c_v94 : Ref sig .tc := ⟨.hbm, 122, rfl⟩
abbrev main_while0b_call1_c : Ref sig .tc := ⟨.hbm, 123, rfl⟩
abbrev main_while0b_call1_c_0 : Ref sig .tc := ⟨.hbm, 124, rfl⟩
abbrev main_while0b_call1_v0 : Ref sig .tc := ⟨.hbm, 125, rfl⟩
abbrev main_while0b_v94 : Ref sig .tc := ⟨.hbm, 126, rfl⟩
abbrev main_while0b_call2_c : Ref sig .tc := ⟨.hbm, 127, rfl⟩
abbrev main_while0b_call2_c_0 : Ref sig .tc := ⟨.hbm, 128, rfl⟩
abbrev main_while0b_call2_v0 : Ref sig .tc := ⟨.hbm, 129, rfl⟩
abbrev main_while0b_v95 : Ref sig .tc := ⟨.hbm, 130, rfl⟩
abbrev main_while0b_call3_v0 : Ref sig .tc := ⟨.hbm, 131, rfl⟩
abbrev main_while0b_v96 : Ref sig .tc := ⟨.hbm, 132, rfl⟩
abbrev main_while0b_v97 : Ref sig .tc := ⟨.hbm, 133, rfl⟩
abbrev main_while0b_v98 : Ref sig .tc := ⟨.hbm, 134, rfl⟩
abbrev main_while0b_v99 : Ref sig .tc := ⟨.hbm, 135, rfl⟩
abbrev main_while0b_v100 : Ref sig .tc := ⟨.hbm, 136, rfl⟩
abbrev main_while0b_v101 : Ref sig .tc := ⟨.hbm, 137, rfl⟩
abbrev main_while0b_v102 : Ref sig .tc := ⟨.hbm, 138, rfl⟩
abbrev main_while0b_v103 : Ref sig .tc := ⟨.hbm, 139, rfl⟩
abbrev main_while0b_v104 : Ref sig .tc := ⟨.hbm, 140, rfl⟩
abbrev main_while0b_v105 : Ref sig .tc := ⟨.hbm, 141, rfl⟩
abbrev main_while0b_v106 : Ref sig .tc := ⟨.hbm, 142, rfl⟩
abbrev main_while0b_v107 : Ref sig .tc := ⟨.hbm, 143, rfl⟩
abbrev main_while0b_v108 : Ref sig .tc := ⟨.hbm, 144, rfl⟩
abbrev main_while0b_c_34 : Ref sig .tc := ⟨.hbm, 145, rfl⟩
abbrev main_while0b_call4_v0 : Ref sig .tc := ⟨.hbm, 146, rfl⟩
abbrev main_while0b_v109 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_cst_35 : Ref sig .tc := ⟨.hbm, 152, rfl⟩
abbrev main_while0b_call5_v0 : Ref sig .tc := ⟨.hbm, 153, rfl⟩
abbrev main_while0b_v114 : Ref sig .tc := ⟨.hbm, 154, rfl⟩
abbrev main_while0b_c_36 : Ref sig .tc := ⟨.hbm, 155, rfl⟩
abbrev main_while0b_v115 : Ref sig .tc := ⟨.hbm, 156, rfl⟩
abbrev main_while0b_v116 : Ref sig .tc := ⟨.hbm, 157, rfl⟩
abbrev main_while0b_v117 : Ref sig .tc := ⟨.hbm, 158, rfl⟩
abbrev main_while0b_v118 : Ref sig .tc := ⟨.hbm, 159, rfl⟩
abbrev main_while0b_v119 : Ref sig .tc := ⟨.hbm, 160, rfl⟩
abbrev main_while0b_v120 : Ref sig .tc := ⟨.hbm, 161, rfl⟩
abbrev main_while0b_cst_37 : Ref sig .tc := ⟨.hbm, 162, rfl⟩
abbrev main_while0b_call7_v0 : Ref sig .tc := ⟨.hbm, 163, rfl⟩
abbrev main_while0b_v121 : Ref sig .tc := ⟨.hbm, 164, rfl⟩
abbrev main_while0b_c_38 : Ref sig .tc := ⟨.hbm, 165, rfl⟩
abbrev main_while0b_v122 : Ref sig .tc := ⟨.hbm, 166, rfl⟩
abbrev main_while0b_v123 : Ref sig .tc := ⟨.hbm, 167, rfl⟩
abbrev main_while0b_v124 : Ref sig .tc := ⟨.hbm, 168, rfl⟩
abbrev main_while0b_v125 : Ref sig .tc := ⟨.hbm, 169, rfl⟩
abbrev main_while0b_v126 : Ref sig .tc := ⟨.hbm, 170, rfl⟩
abbrev main_while0b_v127 : Ref sig .tc := ⟨.hbm, 171, rfl⟩
abbrev main_while0b_cst_39 : Ref sig .tc := ⟨.hbm, 172, rfl⟩
abbrev main_while0b_v128 : Ref sig .tc := ⟨.hbm, 173, rfl⟩
abbrev main_while0b_v129 : Ref sig .tc := ⟨.hbm, 174, rfl⟩
abbrev main_while0b_cst_40 : Ref sig .tc := ⟨.hbm, 175, rfl⟩
abbrev main_while0b_v130 : Ref sig .tc := ⟨.hbm, 176, rfl⟩
abbrev main_while0b_v131 : Ref sig .tc := ⟨.hbm, 177, rfl⟩
abbrev main_while0b_cst_41 : Ref sig .tc := ⟨.hbm, 178, rfl⟩
abbrev main_while0b_v132 : Ref sig .tc := ⟨.hbm, 179, rfl⟩
abbrev main_while0b_v133 : Ref sig .tc := ⟨.hbm, 180, rfl⟩
abbrev main_while0b_v134 : Ref sig .tc := ⟨.hbm, 181, rfl⟩
abbrev main_while0b_v135 : Ref sig .tc := ⟨.hbm, 182, rfl⟩
abbrev main_while0b_v136 : Ref sig .tc := ⟨.hbm, 183, rfl⟩
abbrev main_while0b_cst_42 : Ref sig .tc := ⟨.hbm, 184, rfl⟩
abbrev main_while0b_v137 : Ref sig .tc := ⟨.hbm, 185, rfl⟩
abbrev main_while0b_v138 : Ref sig .tc := ⟨.hbm, 186, rfl⟩
abbrev main_while0b_v139 : Ref sig .tc := ⟨.hbm, 187, rfl⟩
abbrev main_while0b_v140 : Ref sig .tc := ⟨.hbm, 188, rfl⟩
abbrev main_while0b_cst_43 : Ref sig .tc := ⟨.hbm, 189, rfl⟩
abbrev main_while0b_v141 : Ref sig .tc := ⟨.hbm, 190, rfl⟩
abbrev main_while0b_v142 : Ref sig .tc := ⟨.hbm, 191, rfl⟩
abbrev main_while0b_cst_44 : Ref sig .tc := ⟨.hbm, 192, rfl⟩
abbrev main_while0b_v143 : Ref sig .tc := ⟨.hbm, 193, rfl⟩
abbrev main_while0b_v144 : Ref sig .tc := ⟨.hbm, 194, rfl⟩
abbrev main_while0b_cst_45 : Ref sig .tc := ⟨.hbm, 195, rfl⟩
abbrev main_while0b_v145 : Ref sig .tc := ⟨.hbm, 196, rfl⟩
abbrev main_while0b_v146 : Ref sig .tc := ⟨.hbm, 197, rfl⟩
abbrev main_while0b_v147 : Ref sig .tc := ⟨.hbm, 198, rfl⟩
abbrev main_while0b_v148 : Ref sig .tc := ⟨.hbm, 199, rfl⟩
abbrev main_while0b_v149 : Ref sig .tc := ⟨.hbm, 200, rfl⟩
abbrev main_while0b_cst_46 : Ref sig .tc := ⟨.hbm, 201, rfl⟩
abbrev main_while0b_v150 : Ref sig .tc := ⟨.hbm, 202, rfl⟩
abbrev main_while0b_v151 : Ref sig .tc := ⟨.hbm, 203, rfl⟩
abbrev main_while0b_v152 : Ref sig .tc := ⟨.hbm, 204, rfl⟩
abbrev main_while0b_v153 : Ref sig .tc := ⟨.hbm, 205, rfl⟩
abbrev main_while0b_cst_47 : Ref sig .tc := ⟨.hbm, 206, rfl⟩
abbrev main_while0b_v154 : Ref sig .tc := ⟨.hbm, 207, rfl⟩
abbrev main_while0b_v155 : Ref sig .tc := ⟨.hbm, 208, rfl⟩
abbrev main_while0b_cst_48 : Ref sig .tc := ⟨.hbm, 209, rfl⟩
abbrev main_while0b_v156 : Ref sig .tc := ⟨.hbm, 210, rfl⟩
abbrev main_while0b_v157 : Ref sig .tc := ⟨.hbm, 211, rfl⟩
abbrev main_while0b_cst_49 : Ref sig .tc := ⟨.hbm, 212, rfl⟩
abbrev main_while0b_v158 : Ref sig .tc := ⟨.hbm, 213, rfl⟩
abbrev main_while0b_v159 : Ref sig .tc := ⟨.hbm, 214, rfl⟩
abbrev main_while0b_v160 : Ref sig .tc := ⟨.hbm, 215, rfl⟩
abbrev main_while0b_v161 : Ref sig .tc := ⟨.hbm, 216, rfl⟩
abbrev main_while0b_v162 : Ref sig .tc := ⟨.hbm, 217, rfl⟩
abbrev main_while0b_cst_50 : Ref sig .tc := ⟨.hbm, 218, rfl⟩
abbrev main_while0b_v163 : Ref sig .tc := ⟨.hbm, 219, rfl⟩
abbrev main_while0b_v164 : Ref sig .tc := ⟨.hbm, 220, rfl⟩
abbrev main_while0b_v165 : Ref sig .tc := ⟨.hbm, 221, rfl⟩
abbrev main_while0b_v166 : Ref sig .tc := ⟨.hbm, 222, rfl⟩
abbrev main_while0b_v167 : Ref sig .tc := ⟨.hbm, 223, rfl⟩
abbrev main_while0b_v168 : Ref sig .tc := ⟨.hbm, 224, rfl⟩
abbrev main_while0b_v169 : Ref sig .tc := ⟨.hbm, 225, rfl⟩
abbrev main_while0b_v170 : Ref sig .tc := ⟨.hbm, 226, rfl⟩
abbrev main_while0b_v171 : Ref sig .tc := ⟨.hbm, 227, rfl⟩
abbrev main_while0b_v172 : Ref sig .tc := ⟨.hbm, 228, rfl⟩
abbrev main_while0b_v173 : Ref sig .tc := ⟨.hbm, 229, rfl⟩
abbrev main_while0b_call12_v0 : Ref sig .tc := ⟨.hbm, 230, rfl⟩
abbrev main_while0b_call12_c : Ref sig .tc := ⟨.hbm, 231, rfl⟩
abbrev main_while0b_call12_c_0 : Ref sig .tc := ⟨.hbm, 232, rfl⟩
abbrev main_while0b_call12_c_1 : Ref sig .tc := ⟨.hbm, 233, rfl⟩
abbrev main_while0b_v174 : Ref sig .tc := ⟨.hbm, 234, rfl⟩
abbrev main_while0b_c_51 : Ref sig .tc := ⟨.hbm, 235, rfl⟩
abbrev main_while0b_v175 : Ref sig .tc := ⟨.hbm, 236, rfl⟩
abbrev main_cst_23 : Ref sig .tc := ⟨.hbm, 237, rfl⟩
abbrev main_v82 : Ref sig .tc := ⟨.hbm, 238, rfl⟩
abbrev main_v83 : Ref sig .tc := ⟨.hbm, 239, rfl⟩
abbrev main_v84 : Ref sig .tc := ⟨.hbm, 240, rfl⟩
abbrev main_v85 : Ref sig .tc := ⟨.hbm, 241, rfl⟩
abbrev main_v86 : Ref sig .tc := ⟨.hbm, 242, rfl⟩
abbrev main_cst_24 : Ref sig .tc := ⟨.hbm, 243, rfl⟩
abbrev main_v87 : Ref sig .tc := ⟨.hbm, 244, rfl⟩
abbrev main_v88 : Ref sig .tc := ⟨.hbm, 245, rfl⟩
abbrev main_v89 : Ref sig .tc := ⟨.hbm, 246, rfl⟩
abbrev main_v90 : Ref sig .tc := ⟨.hbm, 247, rfl⟩
abbrev main_cst_25 : Ref sig .tc := ⟨.hbm, 248, rfl⟩
abbrev main_v91 : Ref sig .tc := ⟨.hbm, 249, rfl⟩
abbrev main_cst_26 : Ref sig .tc := ⟨.hbm, 250, rfl⟩
abbrev main_v92 : Ref sig .tc := ⟨.hbm, 251, rfl⟩
abbrev main_v93 : Ref sig .tc := ⟨.hbm, 252, rfl⟩

abbrev nD : Nat := 1
abbrev τ : Topo := Topo.v7x

variable {F : FTy → Type} [FloatOps F]

abbrev main_while0_count : Scf.Loop 32 := ⟨0#32, 509#32, 1#32⟩
-- ==== Proof.Model.lean ====
/- One trip of the kernel's loop as a function. The kernel works on eight rows of 256 lanes at a time, keeps seven
   vectors per half batch between trips, and makes 32 steps per trip in eight groups of four. The definitions below say
   this over any floats, with the same operations in the same association as the kernel. -/
module

public import Idealize.ShloMosaic.PureOps
public import Idealize.ShloMosaic.Lib.Scf

@[expose] public section

noncomputable section

namespace SwModel

open Idealize.ShloMosaic

/-- Eight rows of `k` lanes. -/
abbrev W (k : ℕ) : Shape := ⟨2, ![8, k]⟩
/-- Eight rows of 256 lanes: the tile every vector of the loop has. -/
abbrev T : Shape := W 256
/-- One value per row, before it is given a lane axis. -/
abbrev Rows : Shape := ⟨1, ![8]⟩

/-- `k` lanes from lane `o` on lie inside a tile. -/
theorem slices_lanes (o k : ℕ) (h : o + k ≤ 256) : T.Slices ![0, o] (W k) :=
  ⟨rfl, fun a => by fin_cases a <;> simp <;> omega⟩

/-- `k` lanes followed by the remaining ones make a tile. -/
theorem joins_lanes (k : ℕ) (h : k ≤ 256) : Shape.Concatenates [W k, W (256 - k)] T 1 := by
  refine ⟨by simp, ?_, ?_⟩
  · intro s hs
    simp only [List.mem_cons, List.not_mem_nil, or_false] at hs
    rcases hs with rfl | rfl
    all_goals exact ⟨rfl, fun b hb => by fin_cases b <;> first | rfl | exact absurd rfl hb⟩
  · simp; omega

theorem reduces_rows : T.Reduces [1] Rows := by decide
theorem casts_rows : Rows.ShapeCasts (W 1) := by decide
theorem spreads_rows : (W 1).Broadcasts T := by decide

variable {F : FTy → Type} [FloatOps F]

/-- A tile, and a column of one value per row. -/
abbrev V (F : FTy → Type) : Type := FVec F T .f32
abbrev Col (F : FTy → Type) : Type := FVec F (W 1) .f32

/-- The lanes moved up by `k`, zeros coming in. -/
def sh (k : ℕ) (hk : k ≤ 256) (x : V F) : V F :=
  concatenate T 1 [⟨W k, broadcast (W k) (Scalar.ofBits .f32 0x00000000#32)⟩,
    ⟨W (256 - k), extractStridedSlice (W (256 - k)) ![0, 0] x (slices_lanes 0 (256 - k) (by omega))⟩] (joins_lanes k hk)

/-- The lanes moved up by `k`, the last ones coming in at the front. -/
def rot (k : ℕ) (hk : k ≤ 256) (x : IVec T 32) : IVec T 32 :=
  concatenate T 1 [⟨W k, extractStridedSlice (W k) ![0, 256 - k] x (slices_lanes (256 - k) k (by omega))⟩,
    ⟨W (256 - k), extractStridedSlice (W (256 - k)) ![0, 0] x (slices_lanes 0 (256 - k) (by omega))⟩] (joins_lanes k hk)

/-- The four candidates a lane chooses from. -/
structure Quad (F : FTy → Type) [FloatOps F] where
  a : V F
  b : V F
  c : V F
  d : V F

/-- Per lane, the candidate its number names. -/
def sel4 (t : IVec T 32) (q : Quad F) : V F :=
  select (cmpi .eq t (broadcast T 0#32)) q.a
    (select (cmpi .eq t (broadcast T 1#32)) q.b (select (cmpi .eq t (broadcast T 2#32)) q.c q.d))

/-- The candidate a lane's number names where the mask holds, `z` elsewhere. -/
def pick (z : V F) (m : IVec T 1) (t : IVec T 32) (q : Quad F) : V F := select m (sel4 t q) z

/-- The lanes that hold a cell of the table at `k` steps into the trip: lane minus step in `-254 … 0`. -/
def mask (ld : IVec T 32) (k : ℕ) : IVec T 1 :=
  andi (cmpi .sle (subi ld (broadcast T (BitVec.ofNat 32 k))) (broadcast T 0#32))
    (cmpi .sge (subi ld (broadcast T (BitVec.ofNat 32 k))) (broadcast T 4294967042#32))

/-- The two factors of the gap penalties, and `open · a + extend · b`. -/
def blend (a b : V F) : V F :=
  addf (mulf (broadcast T (Scalar.ofBits .f32 0x3C960AAE#32)) a) (mulf (broadcast T (Scalar.ofBits .f32 0x3EBC5AB2#32)) b)

/-- What a half batch reads and does not change: the zero tile, the exponentials of the scores, the same moved up by
    one, two and three lanes, and the exponentials of the next cell's scores. -/
structure Tabs (F : FTy → Type) [FloatOps F] where
  z : V F
  q0 : Quad F
  q1 : Quad F
  q2 : Quad F
  q3 : Quad F
  e1 : Quad F

/-- What a half batch keeps from one group of steps to the next. -/
structure St (F : FTy → Type) [FloatOps F] where
  ea : V F
  er : V F
  sq : V F
  eg : V F
  eg2 : V F
  acc : V F

/-- `e · (g + e0)` with `e0` one value per row. -/
def hit (e0 : Col F) (e g : V F) : V F := mulf e (addf g (broadcastTo T e0 spreads_rows))

/-- Four steps at once, `k` steps into the trip: the shifted values the later steps need are computed ahead. -/
def group (D : Tabs F) (e0 : Col F) (m : ℕ → IVec T 1) (w : ℕ → IVec T 32) (k : ℕ) (s : St F) : St F :=
  let v1 := blend s.ea s.er
  let q1 := sh 1 (by omega) s.sq
  let q2 := sh 2 (by omega) s.sq
  let q3 := sh 3 (by omega) s.sq
  let q4 := sh 4 (by omega) s.sq
  let w1s := sh 1 (by omega) v1
  let w2s := sh 2 (by omega) v1
  let w3s := sh 3 (by omega) v1
  let ead := hit e0 (pick D.z (m k) (w k) D.q0) (sh 1 (by omega) s.eg2)
  let sd := addf ead v1
  let egd := addf sd q1
  let acc0 := addf s.acc (mulf egd (pick D.z (m k) (w (k + 1)) D.e1))
  let sead := hit e0 (pick D.z (m (k + 1)) (w (k + 1)) D.q1) (sh 2 (by omega) s.eg2)
  let s2ead := hit e0 (pick D.z (m (k + 2)) (w (k + 2)) D.q2) (sh 3 (by omega) s.eg2)
  let s3ead := hit e0 (pick D.z (m (k + 3)) (w (k + 3)) D.q3) (sh 4 (by omega) s.eg2)
  let ssd := addf sead w1s
  let s2sd := addf s2ead w2s
  let s3sd := addf s3ead w3s
  let segd := addf ssd q2
  let s2egd := addf s2sd q3
  let ssqd := blend ssd q2
  let s2sqd := blend s2sd q3
  let s3sqd := blend s3sd q4
  let ea1 := hit e0 (pick D.z (m (k + 1)) (w (k + 1)) D.q0) (sh 1 (by omega) s.eg)
  let er1 := blend ead v1
  let s1 := addf ea1 er1
  let eg1 := addf s1 ssqd
  let acc1 := addf acc0 (mulf eg1 (pick D.z (m (k + 1)) (w (k + 2)) D.e1))
  let sea1 := hit e0 (pick D.z (m (k + 2)) (w (k + 2)) D.q1) (sh 2 (by omega) s.eg)
  let s2ea1 := hit e0 (pick D.z (m (k + 3)) (w (k + 3)) D.q2) (sh 3 (by omega) s.eg)
  let ser1 := blend sead w1s
  let s2er1 := blend s2ead w2s
  let ss1 := addf sea1 ser1
  let s2s1 := addf s2ea1 s2er1
  let seg1 := addf ss1 s2sqd
  let ssq1 := blend ss1 s2sqd
  let s2sq1 := blend s2s1 s3sqd
  let ea2 := hit e0 (pick D.z (m (k + 2)) (w (k + 2)) D.q0) segd
  let er2 := blend ea1 er1
  let s2 := addf ea2 er2
  let eg2 := addf s2 ssq1
  let acc2 := addf acc1 (mulf eg2 (pick D.z (m (k + 2)) (w (k + 3)) D.e1))
  let sea2 := hit e0 (pick D.z (m (k + 3)) (w (k + 3)) D.q1) s2egd
  let ser2 := blend sea1 ser1
  let ss2 := addf sea2 ser2
  let ssq2 := blend ss2 s2sq1
  let ea3 := hit e0 (pick D.z (m (k + 3)) (w (k + 3)) D.q0) seg1
  let er3 := blend ea2 er2
  let s3 := addf ea3 er3
  let eg3 := addf s3 ssq2
  ⟨ea3, er3, blend s3 ssq2, eg3, eg2, addf acc2 (mulf eg3 (pick D.z (m (k + 3)) (w (k + 4)) D.e1))⟩

/-- A row's largest entry, or one if that is larger. -/
def top (eg : V F) : Col F :=
  maximumf (shapeCast (W 1) (multiReduction .maximumf [1] Rows eg 0xFF800000#32 reduces_rows (.inl rfl) rfl) casts_rows)
    (broadcast (W 1) (Scalar.ofBits .f32 0x3F800000#32))

/-- The scale a trip starts with: what it was, plus the logarithm of what the rows are divided by. -/
def lift (mx : Col F) (eg : V F) : Col F := addf mx (log (top eg))

/-- `exp (-mx)`. -/
def unit (mx : Col F) : Col F := exp (subf (broadcast (W 1) (Scalar.ofBits .f32 0x00000000#32)) mx)

/-- A tile divided row by row by `c`, as a product with the inverse. -/
def scaled (c : Col F) (x : V F) : V F :=
  mulf x (broadcastTo T (divf (broadcast (W 1) (Scalar.ofBits .f32 0x3F800000#32)) c) spreads_rows)

/-- The state with every tile divided by the rows' largest entries. -/
def rescale (s : St F) : St F :=
  ⟨scaled (top s.eg) s.ea, scaled (top s.eg) s.er, scaled (top s.eg) s.sq, scaled (top s.eg) s.eg,
    scaled (top s.eg) s.eg2, scaled (top s.eg) s.acc⟩

/-- The letters `k` steps into the trip. -/
def letters (vc : IVec T 32) (k : ℕ) : IVec T 32 := if h : k = 0 ∨ 256 < k then vc else rot k (by omega) vc

/-- The state after `n` groups of a trip. -/
def groups (D : Tabs F) (e0 : Col F) (m : ℕ → IVec T 1) (w : ℕ → IVec T 32) (s : St F) : ℕ → St F
  | 0 => s
  | n + 1 => group D e0 m w (4 * n) (groups D e0 m w s n)

/-- The lanes' numbers less the steps made before the trip. -/
def ahead (lane : IVec T 32) (i : BitVec 32) : IVec T 32 := subi lane (broadcast T (Scalar.muli i 32#32))

/-- One trip of a half batch. -/
def trip (D : Tabs F) (ld : IVec T 32) (mx : Col F) (vc : IVec T 32) (s : St F) : St F :=
  groups D (unit (lift mx s.eg)) (mask ld) (letters vc) (rescale s) 8

/-- The carried values of both halves, in the kernel's order. -/
abbrev Carry (F : FTy → Type) : Type :=
  Col F × V F × V F × V F × V F × V F × V F × IVec T 32 × Col F × V F × V F × V F × V F × V F × V F × IVec T 32

/-- The carried values from the halves' scales, states and letters. -/
def pack (mx : Col F) (s : St F) (vc : IVec T 32) (mx' : Col F) (s' : St F) (vc' : IVec T 32) : Carry F :=
  (mx, s.ea, s.er, s.sq, s.eg, s.eg2, s.acc, vc, mx', s'.ea, s'.er, s'.sq, s'.eg, s'.eg2, s'.acc, vc')

/-- One trip of the loop on the carried values. -/
def chunk (D D' : Tabs F) (lane : IVec T 32) (i : BitVec 32) : Carry F → Carry F
  | (mx, ea, er, sq, eg, eg2, acc, vc, mx', ea', er', sq', eg', eg2', acc', vc') =>
    pack (lift mx eg) (trip D (ahead lane i) mx vc ⟨ea, er, sq, eg, eg2, acc⟩) (letters vc 32)
      (lift mx' eg') (trip D' (ahead lane i) mx' vc' ⟨ea', er', sq', eg', eg2', acc'⟩) (letters vc' 32)

end SwModel

end
-- ==== Proof.Whole.lean ====
/- The kernel's result as a function of its two operands: the tables it reads the scores from, the sixteen trips, and the
   sum it closes with. -/
module

public import proofs.«01_k».proof.Proof.Model

@[expose] public section

noncomputable section

namespace SwModel

open Idealize.ShloMosaic

/-- The scores and the letters as the kernel reads them, and the shapes on the way to a tile. -/
abbrev Scores : Shape := ⟨3, ![4, 16, 256]⟩
abbrev Page : Shape := ⟨3, ![1, 16, 256]⟩
abbrev Sheet : Shape := ⟨2, ![16, 256]⟩
/-- The shapes of the closing sum. -/
abbrev Col3 : Shape := ⟨3, ![1, 8, 1]⟩
abbrev One : Shape := ⟨1, ![1]⟩
abbrev One2 : Shape := ⟨2, ![1, 1]⟩
abbrev One3 : Shape := ⟨3, ![1, 1, 1]⟩

theorem slices_page (p : Fin 4) : Scores.Slices ![(p : ℕ), 0, 0] Page :=
  ⟨rfl, fun a => by fin_cases a <;> simp <;> omega⟩
theorem slices_half (r : ℕ) (h : r ≤ 8) : Sheet.Slices ![r, 0] T :=
  ⟨rfl, fun a => by fin_cases a <;> simp <;> omega⟩
theorem slices_first : T.Slices ![0, 0] (W 1) := slices_lanes 0 1 (by omega)
theorem casts_page : Page.ShapeCasts Sheet := by decide
theorem casts_col : (W 1).ShapeCasts Col3 := by decide
theorem casts_one : One.ShapeCasts One3 := by decide
theorem reduces_col : Col3.Reduces [1, 2] One := by decide
theorem casts_scores : Scores.ShapeCasts Scores := by decide
theorem casts_sheet : Sheet.ShapeCasts Sheet := by decide

variable {F : FTy → Type} [FloatOps F]

/-- Page `p` of the scores, eight rows from row `r`. -/
def plane (x : FVec F Scores .f32) (p : Fin 4) (r : ℕ) (h : r ≤ 8) : V F :=
  extractStridedSlice T ![r, 0] (shapeCast Sheet (extractStridedSlice Page ![(p : ℕ), 0, 0] x (slices_page p)) casts_page)
    (slices_half r h)

/-- Each lane's number. -/
def lanes : IVec T 32 := iota .tc T 32 [1] (by decide)

/-- The tile of zeros. -/
def zeros : V F := broadcast T (Scalar.ofBits .f32 0x00000000#32)

/-- The tile where the lane is below 255, zero in the last lane. -/
def clipped (x : V F) : V F := select (cmpi .slt lanes (broadcast T 255#32)) x zeros

/-- The lanes moved down by one, the first coming in at the end. -/
def turned (x : V F) : V F :=
  concatenate T 1 [⟨W 255, extractStridedSlice (W 255) ![0, 1] x (slices_lanes 1 255 (by omega))⟩,
    ⟨W 1, extractStridedSlice (W 1) ![0, 0] x slices_first⟩] (joins_lanes 255 (by omega))

/-- Four candidates from a function of the letter. -/
def quad (f : Fin 4 → V F) : Quad F := ⟨f 0, f 1, f 2, f 3⟩

/-- What the half batch from row `r` on reads. -/
def tabs (x : FVec F Scores .f32) (r : ℕ) (h : r ≤ 8) : Tabs F where
  z := zeros
  q0 := quad fun p => clipped (exp (plane x p r h))
  q1 := quad fun p => sh 1 (by omega) (clipped (exp (plane x p r h)))
  q2 := quad fun p => sh 2 (by omega) (clipped (exp (plane x p r h)))
  q3 := quad fun p => sh 3 (by omega) (clipped (exp (plane x p r h)))
  e1 := quad fun p => clipped (exp (turned (plane x p r h)))

/-- The tile the trips start from: the first page times zero. -/
def nought (x : FVec F Scores .f32) (r : ℕ) (h : r ≤ 8) : V F :=
  mulf (plane x 0 r h) (broadcast T (Scalar.ofBits .f32 0x00000000#32))
/-- The scale they start from. -/
def ground (x : FVec F Scores .f32) (r : ℕ) (h : r ≤ 8) : Col F := extractStridedSlice (W 1) ![0, 0] (nought x r h) slices_first
/-- The letters they start from. -/
def script (t : IVec Sheet 32) (r : ℕ) (h : r ≤ 8) : IVec T 32 := extractStridedSlice T ![r, 0] t (slices_half r h)
/-- The state they start from. -/
def blank (x : FVec F Scores .f32) (r : ℕ) (h : r ≤ 8) : St F :=
  ⟨nought x r h, nought x r h, nought x r h, nought x r h, nought x r h, nought x r h⟩

/-- The carried values the trips start from. -/
def start (x : FVec F Scores .f32) (t : IVec Sheet 32) : Carry F :=
  pack (ground x 0 (by omega)) (blank x 0 (by omega)) (script t 0 (by omega))
    (ground x 8 (by omega)) (blank x 8 (by omega)) (script t 8 (by omega))

/-- `n` rounds of `f` from `s`. -/
def rounds {σ : Type} (f : ℕ → σ → σ) (s : σ) : ℕ → σ
  | 0 => s
  | n + 1 => f n (rounds f s n)

/-- The carried values after `n` trips. -/
def trips (x : FVec F Scores .f32) (t : IVec Sheet 32) : ℕ → Carry F :=
  rounds (fun i => chunk (tabs x 0 (by omega)) (tabs x 8 (by omega)) lanes (Scf.iv 0#32 1#32 i)) (start x t)

/-- The largest logarithm of a row, `log (max acc nf)`. -/
def logs (nf : F .f32) (acc : V F) : V F := log (maximumf acc (broadcast T nf))
def peak (nf : F .f32) (acc : V F) : Col F :=
  shapeCast (W 1) (multiReduction .maximumf [1] Rows (logs nf acc) 0xFF800000#32 reduces_rows (.inl rfl) rfl) casts_rows

/-- A row's logarithm of the sum of its entries, `mx` added. -/
def rowLog (nf : F .f32) (mx : Col F) (acc : V F) : Col F :=
  addf (addf mx (peak nf acc))
    (log (shapeCast (W 1) (multiReduction .add [1] Rows
      (exp (subf (logs nf acc) (broadcastTo T (peak nf acc) spreads_rows))) 0x00000000#32 reduces_rows (.inl rfl) rfl) casts_rows))

/-- The sum over the rows, of the column given a leading axis. -/
def rowsSum (c : FVec F Col3 .f32) : F .f32 :=
  extractAt ![0, 0, 0] (shapeCast One3 (multiReduction .add [1, 2] One c 0x00000000#32 reduces_col (.inl rfl) rfl) casts_one) (by decide)

/-- The result from the two halves' sums. -/
def close (a b : F .f32) : FVec F One2 .f32 :=
  broadcast One2 (Scalar.mulf (Scalar.subf (Scalar.ofBits .f32 0x00000000#32) (Scalar.addf a b)) (Scalar.ofBits .f32 0x3D800000#32))

/-- The two halves' closing values. -/
def part (nf : F .f32) : Carry F → FVec F Col3 .f32
  | (mx, _, _, _, _, _, acc, _) => shapeCast Col3 (rowLog nf mx acc) casts_col
def part' (nf : F .f32) : Carry F → FVec F Col3 .f32
  | (_, _, _, _, _, _, _, _, mx, _, _, _, _, _, acc, _) => shapeCast Col3 (rowLog nf mx acc) casts_col

/-- The kernel's result. -/
def total (nf : F .f32) (x : FVec F Scores .f32) (t : IVec Sheet 32) : FVec F One2 .f32 :=
  close (rowsSum (part nf (trips x t 16))) (rowsSum (part' nf (trips x t 16)))

/-- A fold over sixteen trips is `rounds`. -/
theorem foldl_finRange {σ : Type} (f : ℕ → σ → σ) (s : σ) (n : ℕ) :
    (List.finRange n).foldl (fun acc (k : Fin n) => f k acc) s = rounds f s n := by
  induction n with
  | zero => rfl
  | succ n ih => rw [List.finRange_succ_last, List.foldl_append, List.foldl_map]; exact congrArg (f n) ih

end SwModel

end
-- ==== Proof.BodyKernelIdeal.lean ====
/- The loop's body of the kernel read over the extended reals is the function `chunk`. -/
module

public import proofs.«01_k».proof.Proof.Model
public import proofs.«01_k».proof.Proof.Gen.KernelIdeal.Loops

@[expose] public section

noncomputable section

namespace Cert.Proof.KernelIdeal

open Cert.KernelIdeal Cert.KernelIdeal.Gen SwModel
open Idealize.ShloMosaic Idealize.SL.Sem

variable {F : FTy → Type} [FloatOps F] [Named F]

/-- One trip computes `chunk` of the carried values and touches nothing else. -/
theorem body_eq (arg0 : Memref sig .tc .vmem S4x16x256 .f32) (harg0 : arg0.IsWhole)
    (arg1 : Memref sig .tc .vmem S16x256 .i32) (harg1 : arg1.IsWhole) (arg2 : Memref sig .tc .vmem S1x1 .f32) (harg2 : arg2.IsWhole)
    (v1 : FVec F S4x16x256 .f32) (v3 : IVec S16x256 32) (v4 : IVec S8x256 32) (v7 v12 v17 v22 v27 v30 v33 v36 v39 v42 v45 v48 v51 v54 v57 v60 v63 v74 v85 v96 v107 : FVec F S8x256 .f32)
    (v108 : IVec S8x256 32) (v113 v118 v123 v128 v131 v134 v137 v140 v143 v146 v149 v152 v155 v158 v161 v164 v175 v186 v197 v208 : FVec F S8x256 .f32)
    (k : Fin k0_t1_loop.trips) (mx : Col F) (ea er sq eg eg2 ac : V F) (vc : IVec T 32) (mx' : Col F)
    (ea' er' sq' eg' eg2' ac' : V F) (vc' : IVec T 32) :
    k0_t1_body arg0 harg0 arg1 harg1 arg2 harg2 v1 v3 v4 v7 v12 v17 v22 v27 v30 v33 v36 v39 v42 v45 v48 v51 v54 v57 v60 v63 v74 v85 v96 v107 v108 v113 v118 v123 v128 v131 v134 v137 v140 v143 v146 v149 v152 v155 v158 v161 v164 v175 v186 v197 v208 k
        (mx, ea, er, sq, eg, eg2, ac, vc, mx', ea', er', sq', eg', eg2', ac', vc') =
      .ret (chunk ⟨v7, ⟨v12, v17, v22, v27⟩, ⟨v30, v33, v36, v39⟩, ⟨v42, v45, v48, v51⟩, ⟨v54, v57, v60, v63⟩, ⟨v74, v85, v96, v107⟩⟩
        ⟨v7, ⟨v113, v118, v123, v128⟩, ⟨v131, v134, v137, v140⟩, ⟨v143, v146, v149, v152⟩, ⟨v155, v158, v161, v164⟩, ⟨v175, v186, v197, v208⟩⟩
        v4 (Scf.iv 0#32 1#32 k) (mx, ea, er, sq, eg, eg2, ac, vc, mx', ea', er', sq', eg', eg2', ac', vc')) := by
  chain_rfl

end Cert.Proof.KernelIdeal

end
-- ==== Proof.TextKernelIdeal.lean ====
/- The kernel read over the extended reals loads its two operands, makes its trips, and stores the closing value: its text is that program. -/
module

public import proofs.«01_k».proof.Proof.Whole
public import proofs.«01_k».proof.Proof.BodyKernelIdeal
public import Idealize.ShloMosaic.Lib.Exec

@[expose] public section

noncomputable section

namespace Cert.Proof.KernelIdeal

open Cert.KernelIdeal Cert.KernelIdeal.Gen SwModel
open Idealize.ShloMosaic Idealize.SL.Sem

variable {F : FTy → Type} [FloatOps F] [Named F]

/-- The least value a lane's sum is raised to before its logarithm is taken. -/
abbrev floor : F .f32 := Named.named κ "no_floor" 0x0554AD2E#32

/-- The window with the loop: it makes sixteen trips and returns the first half's sum and the second half's column. -/
theorem loop_eq (arg0 : Memref sig .tc .vmem S4x16x256 .f32) (harg0 : arg0.IsWhole)
    (arg1 : Memref sig .tc .vmem S16x256 .i32) (harg1 : arg1.IsWhole) (arg2 : Memref sig .tc .vmem S1x1 .f32) (harg2 : arg2.IsWhole)
    (v1 : FVec F S4x16x256 .f32) (v3 : IVec S16x256 32) (v4 : IVec S8x256 32) (v7 v12 v17 v22 v27 v30 v33 v36 v39 v42 v45 v48 v51 v54 v57 v60 v63 v74 v85 v96 v107 : FVec F S8x256 .f32)
    (v108 : IVec S8x256 32) (v113 v118 v123 v128 v131 v134 v137 v140 v143 v146 v149 v152 v155 v158 v161 v164 v175 v186 v197 v208 : FVec F S8x256 .f32) :
    k0_part122 arg0 harg0 arg1 harg1 arg2 harg2 v1 v3 v4 v7 v12 v17 v22 v27 v30 v33 v36 v39 v42 v45 v48 v51 v54 v57 v60 v63 v74 v85 v96 v107 v108 v113 v118 v123 v128 v131 v134 v137 v140 v143 v146 v149 v152 v155 v158 v161 v164 v175 v186 v197 v208 =
      .ret ((fun r : Carry F => ⟨rowsSum (part floor r), part' floor r⟩)
        (rounds (fun i => chunk ⟨v7, ⟨v12, v17, v22, v27⟩, ⟨v30, v33, v36, v39⟩, ⟨v42, v45, v48, v51⟩, ⟨v54, v57, v60, v63⟩, ⟨v74, v85, v96, v107⟩⟩
            ⟨v7, ⟨v113, v118, v123, v128⟩, ⟨v131, v134, v137, v140⟩, ⟨v143, v146, v149, v152⟩, ⟨v155, v158, v161, v164⟩, ⟨v175, v186, v197, v208⟩⟩
            v4 (Scf.iv 0#32 1#32 i))
          (pack (ground v1 0 (by omega)) (blank v1 0 (by omega)) v108 (ground v1 8 (by omega)) (blank v1 8 (by omega)) (script v3 8 (by omega))) 16)) := by
  have e : k0_part122 arg0 harg0 arg1 harg1 arg2 harg2 v1 v3 v4 v7 v12 v17 v22 v27 v30 v33 v36 v39 v42 v45 v48 v51 v54 v57 v60 v63 v74 v85 v96 v107 v108 v113 v118 v123 v128 v131 v134 v137 v140 v143 v146 v149 v152 v155 v158 v161 v164 v175 v186 v197 v208 =
      (Scf.for 0#32 16#32 1#32 k0_t1_ok
        (pack (ground v1 0 (by omega)) (blank v1 0 (by omega)) v108 (ground v1 8 (by omega)) (blank v1 8 (by omega)) (script v3 8 (by omega)))
        (fun k acc => k0_t1_body arg0 harg0 arg1 harg1 arg2 harg2 v1 v3 v4 v7 v12 v17 v22 v27 v30 v33 v36 v39 v42 v45 v48 v51 v54 v57 v60 v63 v74 v85 v96 v107 v108 v113 v118 v123 v128 v131 v134 v137 v140 v143 v146 v149 v152 v155 v158 v161 v164 v175 v186 v197 v208 k acc)
        >>= fun r : Carry F => .ret ⟨rowsSum (part floor r), part' floor r⟩) := by
    chain_rfl
  refine e.trans ((Scf.for_pure_bind 0#32 16#32 1#32 k0_t1_ok _ _
    (fun k => chunk ⟨v7, ⟨v12, v17, v22, v27⟩, ⟨v30, v33, v36, v39⟩, ⟨v42, v45, v48, v51⟩, ⟨v54, v57, v60, v63⟩, ⟨v74, v85, v96, v107⟩⟩
      ⟨v7, ⟨v113, v118, v123, v128⟩, ⟨v131, v134, v137, v140⟩, ⟨v143, v146, v149, v152⟩, ⟨v155, v158, v161, v164⟩, ⟨v175, v186, v197, v208⟩⟩
      v4 (Scf.iv 0#32 1#32 k)) ?_ _).trans ?_)
  · rintro k ⟨mx, ea, er, sq, eg, eg2, ac, vc, mx', ea', er', sq', eg', eg2', ac', vc'⟩
    exact body_eq arg0 harg0 arg1 harg1 arg2 harg2 v1 v3 v4 v7 v12 v17 v22 v27 v30 v33 v36 v39 v42 v45 v48 v51 v54 v57 v60 v63 v74 v85 v96 v107 v108 v113 v118 v123 v128 v131 v134 v137 v140 v143 v146 v149 v152 v155 v158 v161 v164 v175 v186 v197 v208 k
      mx ea er sq eg eg2 ac vc mx' ea' er' sq' eg' eg2' ac' vc'
  · rw [Scf.fold_eq]
    exact congrArg (fun r : Carry F => Prog.ret (⟨rowsSum (part floor r), part' floor r⟩ : Σ' (_ : F .f32), FVec F S1x8x1 .f32))
      ((foldl_finRange (fun i => chunk ⟨v7, ⟨v12, v17, v22, v27⟩, ⟨v30, v33, v36, v39⟩, ⟨v42, v45, v48, v51⟩, ⟨v54, v57, v60, v63⟩, ⟨v74, v85, v96, v107⟩⟩
        ⟨v7, ⟨v113, v118, v123, v128⟩, ⟨v131, v134, v137, v140⟩, ⟨v143, v146, v149, v152⟩, ⟨v155, v158, v161, v164⟩, ⟨v175, v186, v197, v208⟩⟩
        v4 (Scf.iv 0#32 1#32 i)) _ _).trans (congrArg (rounds _ _) (by decide : Scf.trips 0#32 16#32 1#32 = 16)))

/-- The kernel's text. -/
theorem kernel_eq (arg0 : Memref sig .tc .vmem S4x16x256 .f32) (harg0 : arg0.IsWhole)
    (arg1 : Memref sig .tc .vmem S16x256 .i32) (harg1 : arg1.IsWhole) (arg2 : Memref sig .tc .vmem S1x1 .f32) (harg2 : arg2.IsWhole) :
    cc0__sw_kernel (F := F) arg0 harg0 arg1 harg1 arg2 harg2 = (do
      let x : Vec F S4x16x256 .f32 ← Prog.lift (.load arg0 (Rect.unit (s := S4x16x256) ![0, 0, 0] S4x16x256.size inb_S4x16x256_S4x16x256_0_0_0).toLoadRect (View.loadsAt_vmem h_S4x16x256))
      let t : Vec F S16x256 .i32 ← Prog.lift (.load arg1 (Rect.unit (s := S16x256) ![0, 0] S16x256.size inb_S16x256_S16x256_0_0).toLoadRect (View.loadsAt_vmem h_S16x256))
      let _o : Vec F S1x1 .f32 ← Prog.lift (.load arg2 (Rect.unit (s := S1x1) ![0, 0] S1x1.size inb_S1x1_S1x1_0_0).toLoadRect (View.loadsAt_vmem h_S1x1))
      Prog.lift (.store arg2 (Rect.unit (s := S1x1) ![0, 0] S1x1.size inb_S1x1_S1x1_0_0) (total floor (shapeCast S4x16x256 x casts_scores) (shapeCast S16x256 t casts_sheet)) Finset.univ (View.stores_vmem_bits_univ h_S1x1 rfl) (.inl rfl))
      pure ⟨⟩) := by
  unfold cc0__sw_kernel
  simp only [loop_eq]
  chain_rfl

end Cert.Proof.KernelIdeal

end
-- ==== Proof.RunKernelIdeal.lean ====
/- The run of the program around the kernel read over the extended reals: it ends, leaves its arguments as they were, and its result is the
   kernel's closing value. -/
module

public import proofs.«01_k».proof.Proof.TextKernelIdeal
public import proofs.«01_k».proof.Proof.Gen.KernelIdeal.Frame
public import Idealize.ShloMosaic.Lib.Claim

@[expose] public section

noncomputable section

namespace Cert.Proof.KernelIdeal

open Cert.KernelIdeal Cert.KernelIdeal.Gen SwModel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev whole3 : Rect S4x16x256 := Rect.unit (s := S4x16x256) ![0, 0, 0] S4x16x256.size inb_S4x16x256_S4x16x256_0_0_0
abbrev whole2 : Rect S16x256 := Rect.unit (s := S16x256) ![0, 0] S16x256.size inb_S16x256_S16x256_0_0
abbrev whole1 : Rect S1x1 := Rect.unit (s := S1x1) ![0, 0] S1x1.size inb_S1x1_S1x1_0_0

/-- The kernel's closing value, from what it loads. -/
def result (x : Vec F S4x16x256 .f32) (t : Vec F S16x256 .i32) : Vec F S1x1 .f32 :=
  total floor (shapeCast S4x16x256 x casts_scores) (shapeCast S16x256 t casts_sheet)

/-- What one store of `f` of the two loaded operands leaves in the result's buffer. -/
def leaves (f : Vec F S4x16x256 .f32 → Vec F S16x256 .i32 → Vec F S1x1 .f32) (x : Vec F S4x16x256 .f32) (t : Vec F S16x256 .i32) :
    Vec F S1x1 .f32 :=
  View.canon [⟨whole1, f (View.ld x whole3) (View.ld t whole2)⟩]

/-- The store covers the buffer. -/
theorem covers (p : Vec F S1x1 .f32) (y : S1x1.Idx) :
    ∃ pc ∈ ([⟨whole1, p⟩] : List (View.Piece (Elt F) S1x1 .f32)), y ∈ pc.1.set :=
  View.cover_of_tiled [⟨whole1, p⟩] S1x1.size (by rfl) y

/-- A program that loads the two operands and stores `f` of them: it leaves the operands as they were. -/
theorem sound_store (f : Vec F S4x16x256 .f32 → Vec F S16x256 .i32 → Vec F S1x1 .f32)
    (c : Dev nD) (E : Set ℕ) (arg0 : Memref sig .tc .vmem S4x16x256 .f32) (harg0 : arg0.IsWhole)
    (arg1 : Memref sig .tc .vmem S16x256 .i32) (harg1 : arg1.IsWhole) (arg2 : Memref sig .tc .vmem S1x1 .f32) (harg2 : arg2.IsWhole)
    (x0 : Vec F S4x16x256 .f32) (x1 : Vec F S16x256 .i32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (leaves f x0 x1)) -∗ K ⟨⟩))
      ⊢ wp frame (wpE (defs₀ (F := F)) Variants.none c none) E (do
        let x : Vec F S4x16x256 .f32 ← Prog.lift (.load arg0 (Rect.unit (s := S4x16x256) ![0, 0, 0] S4x16x256.size inb_S4x16x256_S4x16x256_0_0_0).toLoadRect (View.loadsAt_vmem h_S4x16x256))
        let t : Vec F S16x256 .i32 ← Prog.lift (.load arg1 (Rect.unit (s := S16x256) ![0, 0] S16x256.size inb_S16x256_S16x256_0_0).toLoadRect (View.loadsAt_vmem h_S16x256))
        let _o : Vec F S1x1 .f32 ← Prog.lift (.load arg2 (Rect.unit (s := S1x1) ![0, 0] S1x1.size inb_S1x1_S1x1_0_0).toLoadRect (View.loadsAt_vmem h_S1x1))
        Prog.lift (.store arg2 (Rect.unit (s := S1x1) ![0, 0] S1x1.size inb_S1x1_S1x1_0_0) (f x t) Finset.univ (View.stores_vmem_bits_univ h_S1x1 rfl) (.inl rfl))
        pure ⟨⟩) K := by
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers _)

/-- The kernel on whole buffers: it leaves the operands as they were and its closing value in the result's. -/
theorem sound_kernel (c : Dev nD) (E : Set ℕ) (arg0 : Memref sig .tc .vmem S4x16x256 .f32) (harg0 : arg0.IsWhole)
    (arg1 : Memref sig .tc .vmem S16x256 .i32) (harg1 : arg1.IsWhole) (arg2 : Memref sig .tc .vmem S1x1 .f32) (harg2 : arg2.IsWhole)
    (x0 : Vec F S4x16x256 .f32) (x1 : Vec F S16x256 .i32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (leaves result x0 x1)) -∗ K ⟨⟩))
      ⊢ wp frame (wpE (defs₀ (F := F)) Variants.none c none) E (cc0__sw_kernel arg0 harg0 arg1 harg1 arg2 harg2) K := by
  rw [kernel_eq]
  exact sound_store result c E arg0 harg0 arg1 harg1 arg2 harg2 x0 x1 K

variable (m : (ℓ : Loc nD τ sig) → Buf (Elt F) ℓ) (ρ : Dev nD → PrngReg)

/-- The proof data of the one pipeline: the arrays as the region finds them, the operands' buffers at their blocks after
    the body, the result's at what the kernel leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => leaves result (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = leaves result (iblk m c 0 t) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at a point, from `sound_kernel`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row is the body. -/
theorem row (t : Fin cfg0.N) :
    defs₀ (F := F) .tc cfg0.body (cfg0.bodyArgs t (cfg0.slots t)) = bodyAt0 t := by
  unfold defs₀; rw [Defs.onTc_tc]

/-- The obligation the launch asks for. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 4000000 in
/-- The run, with every semaphore counter at zero in the end. -/
theorem run_still : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c w => by fin_cases w <;> rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_still m ρ)

/-- The program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) (run_main m ρ)) ((θ_run defs _ _).mono (fun _ h => h.2) (run_still m ρ))

end Cert.Proof.KernelIdeal

end
-- ==== Proof.Shift.lean ====
/- A group of four steps over the extended reals: the values it computes ahead are the shifts of the plain ones, so a group
   is four plain steps. -/
module

public import proofs.«01_k».proof.Proof.Whole
public import Idealize.ShloMosaic.Lib.Pipeline.Value
public import Idealize.ShloMosaic.PureOps.Ideal.Laws
public import Idealize.ShloMosaic.Lib.IdealHost

@[expose] public section

noncomputable section

namespace SwModel

open Idealize.ShloMosaic

/-- Lane `l` of row `r`. -/
def ix {k : ℕ} (r : Fin 8) (l : Fin k) : (W k).Idx := fun a => match a with
  | 0 => r
  | 1 => l

theorem ix_eta {k : ℕ} (j : (W k).Idx) : j = ix (j 0) (j 1) := by
  funext a; fin_cases a <;> rfl

/-- Two tiles with the same lanes are equal. -/
theorem tile_ext {α : Type} {x y : T.Idx → α} (h : ∀ (r : Fin 8) (l : Fin 256), x (ix r l) = y (ix r l)) : x = y := by
  funext j; rw [ix_eta j]; exact h _ _

/-- Lanes `o …` of a tile. -/
theorem lanes_apply {α : Type} (o k : ℕ) (h : o + k ≤ 256) (x : T.Idx → α) (r : Fin 8) (l : Fin k) :
    extractStridedSlice (W k) ![0, o] x (slices_lanes o k h) (ix r l) = x (ix r ⟨o + l, by omega⟩) :=
  extractStridedSlice_apply _ _ _ _ _ fun a => by fin_cases a <;> simp [ix]

/-- Two pieces put side by side. -/
theorem join_apply {α : Type} (k : ℕ) (hk : k ≤ 256) (x : (W k).Idx → α) (y : (W (256 - k)).Idx → α) (r : Fin 8) (l : Fin 256) :
    concatenate T 1 [⟨W k, x⟩, ⟨W (256 - k), y⟩] (joins_lanes k hk) (ix r l)
      = if h : l.val < k then x (ix r ⟨l, h⟩) else y (ix r ⟨l - k, by omega⟩) := by
  split_ifs with h
  · exact concatenate_pair_apply_left (t := T) (s₁ := W k) (s₂ := W (256 - k)) 1 x y _ (ix r l) rfl (ix r ⟨l, h⟩) fun b => by fin_cases b <;> rfl
  · refine concatenate_pair_apply_right (t := T) (s₁ := W k) (s₂ := W (256 - k)) 1 x y _ (ix r l) rfl rfl (ix r ⟨l - k, by omega⟩) (fun b hb => ?_) ?_
    · fin_cases b
      · rfl
      · exact absurd rfl hb
    · show l.val - k + k = l.val
      omega

theorem zero_word : (Scalar.ofBits .f32 0x00000000#32 : Ideal .f32) = (0 : EReal) := Idealize.ShloMosaic.Ideal.ofBits_zero_f32
theorem one_word : (Scalar.ofBits .f32 0x3F800000#32 : Ideal .f32) = (1 : EReal) := Idealize.ShloMosaic.Ideal.ofBits_one_f32

/-- The shifted tile, lane by lane. -/
theorem sh_apply (k : ℕ) (hk : k ≤ 256) (x : V Ideal) (r : Fin 8) (l : Fin 256) :
    sh k hk x (ix r l) = if l.val < k then (0 : EReal) else x (ix r ⟨l - k, by omega⟩) := by
  unfold sh
  rw [join_apply k hk]
  split_ifs with h
  · exact zero_word
  · rw [lanes_apply 0 (256 - k) (by omega)]
    congr 2; exact Fin.ext (by simp)

/-- The turned tile, lane by lane. -/
theorem rot_apply (k : ℕ) (hk : k ≤ 256) (x : IVec T 32) (r : Fin 8) (l : Fin 256) :
    rot k hk x (ix r l) = if h : l.val < k then x (ix r ⟨256 - k + l, by omega⟩) else x (ix r ⟨l - k, by omega⟩) := by
  unfold rot
  rw [join_apply k hk]
  split_ifs with h
  · rw [lanes_apply (256 - k) k (by omega)]
  · rw [lanes_apply 0 (256 - k) (by omega)]
    congr 2; exact Fin.ext (by simp)

theorem sh_addf (k : ℕ) (hk : k ≤ 256) (x y : V Ideal) : sh k hk (addf x y) = addf (sh k hk x) (sh k hk y) :=
  tile_ext fun r l => by
    show _ = (sh k hk x (ix r l) : EReal) + sh k hk y (ix r l)
    simp only [sh_apply]
    split_ifs
    · exact (add_zero (0 : EReal)).symm
    · rfl

theorem sh_blend (k : ℕ) (hk : k ≤ 256) (x y : V Ideal) : sh k hk (blend x y) = blend (sh k hk x) (sh k hk y) := by
  unfold blend
  rw [sh_addf]
  congr 1
  all_goals
    refine tile_ext fun r l => ?_
    show _ = (Scalar.ofBits (F := Ideal) .f32 _ : EReal) * (sh (F := Ideal) k hk _ (ix r l) : EReal)
    simp only [sh_apply]
    split_ifs
    · exact (mul_zero _).symm
    · rfl

/-- A column spread over the lanes. -/
theorem spread_apply (c : Col Ideal) (r : Fin 8) (l : Fin 256) : broadcastTo T c spreads_rows (ix r l) = c (ix r 0) :=
  broadcastTo_apply _ _ _ _ fun a => by fin_cases a <;> rfl

theorem sh_hit (k : ℕ) (hk : k ≤ 256) (e0 : Col Ideal) (x y : V Ideal) : sh k hk (hit e0 x y) = hit e0 (sh k hk x) (sh k hk y) :=
  tile_ext fun r l => by
    show _ = (sh k hk x (ix r l) : EReal) * ((sh k hk y (ix r l) : EReal) + broadcastTo T e0 spreads_rows (ix r l))
    simp only [sh_apply, spread_apply]
    split_ifs
    · exact (zero_mul _).symm
    · show (x _ : EReal) * ((y _ : EReal) + broadcastTo T e0 spreads_rows _) = _
      rw [spread_apply]

theorem sh_sh (j k : ℕ) (hj : j ≤ 256) (hk : k ≤ 256) (h : j + k ≤ 256) (x : V Ideal) :
    sh j hj (sh k hk x) = sh (j + k) h x :=
  tile_ext fun r l => by
    simp only [sh_apply]
    split_ifs
    any_goals rfl
    any_goals omega
    congr 2; exact Fin.ext (by simp only; omega)

/-- A plain step: `m` the mask and `w` the letters of the step, `w'` those of the next. -/
def plain {F : FTy → Type} [FloatOps F] (D : Tabs F) (e0 : Col F) (m : IVec T 1) (w w' : IVec T 32) (s : St F) : St F where
  ea := hit e0 (pick D.z m w D.q0) (sh 1 (by omega) s.eg2)
  er := blend s.ea s.er
  sq := blend (addf (hit e0 (pick D.z m w D.q0) (sh 1 (by omega) s.eg2)) (blend s.ea s.er)) (sh 1 (by omega) s.sq)
  eg := addf (addf (hit e0 (pick D.z m w D.q0) (sh 1 (by omega) s.eg2)) (blend s.ea s.er)) (sh 1 (by omega) s.sq)
  eg2 := s.eg
  acc := addf s.acc (mulf (addf (addf (hit e0 (pick D.z m w D.q0) (sh 1 (by omega) s.eg2)) (blend s.ea s.er)) (sh 1 (by omega) s.sq))
    (pick D.z m w' D.e1))

/-- A group is four plain steps, if what is looked up ahead is what is looked up later, shifted. -/
theorem group_eq (D : Tabs Ideal) (e0 : Col Ideal) (m : ℕ → IVec T 1) (w : ℕ → IVec T 32) (k : ℕ) (s : St Ideal)
    (h1 : ∀ i ≤ k + 2, sh 1 (by omega) (pick D.z (m i) (w i) D.q0) = pick D.z (m (i + 1)) (w (i + 1)) D.q1)
    (h2 : ∀ i ≤ k + 2, sh 1 (by omega) (pick D.z (m i) (w i) D.q1) = pick D.z (m (i + 1)) (w (i + 1)) D.q2)
    (h3 : ∀ i ≤ k + 2, sh 1 (by omega) (pick D.z (m i) (w i) D.q2) = pick D.z (m (i + 1)) (w (i + 1)) D.q3) :
    group D e0 m w k s = plain D e0 (m (k + 3)) (w (k + 3)) (w (k + 4)) (plain D e0 (m (k + 2)) (w (k + 2)) (w (k + 3))
      (plain D e0 (m (k + 1)) (w (k + 1)) (w (k + 2)) (plain D e0 (m k) (w k) (w (k + 1)) s))) := by
  simp (disch := omega) only [group, plain, sh_addf, sh_blend, sh_hit, h1, h2, h3, sh_sh 1 1 _ _ (by omega), sh_sh 1 (1 + 1) _ _ (by omega),
    sh_sh 1 (1 + 1 + 1) _ _ (by omega), sh_sh 1 (1 + (1 + 1)) _ _ (by omega)]

end SwModel

end
-- ==== Proof.Spec.lean ====
/- The recurrence both programs compute, over the reals. A table of 255 by 255 cells is filled along its antidiagonals:
   step `d` fills the cells `(l, d - l)`. Each cell holds three sums over alignments that end there, by their last move. -/
module

public import Idealize.ShloMosaic.PureOps.Ideal.Laws

@[expose] public section

noncomputable section

namespace SwSpec

/-- The factor for opening a gap. -/
def go : ℝ := 4916567 / 268435456
/-- The factor for extending one. -/
def ge : ℝ := 6171993 / 16777216

theorem go_pos : 0 < go := by unfold go; norm_num
theorem ge_pos : 0 < ge := by unfold ge; norm_num

/-- Cell `(l, d - l)` lies in the table. -/
def Inside (d : ℕ) (l : ℤ) : Prop := 0 ≤ l ∧ l ≤ 254 ∧ l ≤ d ∧ (d : ℤ) ≤ l + 254

instance (d : ℕ) (l : ℤ) : Decidable (Inside d l) := by unfold Inside; infer_instance

/-- The weight of the pair at cell `(l, d - l)`, and that of the pair after it; zero outside the table. -/
def wt (X : ℕ → ℕ → ℝ) (d : ℕ) (l : ℤ) : ℝ := if Inside d l then Real.exp (X l.toNat (d - l).toNat) else 0
def wt' (X : ℕ → ℕ → ℝ) (d : ℕ) (l : ℤ) : ℝ := if Inside d l then Real.exp (X (l.toNat + 1) ((d - l).toNat + 1)) else 0

theorem wt_nonneg (X : ℕ → ℕ → ℝ) (d : ℕ) (l : ℤ) : 0 ≤ wt X d l := by
  unfold wt; split_ifs; exacts [(Real.exp_pos _).le, le_rfl]
theorem wt'_nonneg (X : ℕ → ℕ → ℝ) (d : ℕ) (l : ℤ) : 0 ≤ wt' X d l := by
  unfold wt'; split_ifs; exacts [(Real.exp_pos _).le, le_rfl]

/-- An antidiagonal: the sums that end in a pair, in a gap on the right, in a gap downwards, and the antidiagonal before
    it, the three added. -/
structure Diag where
  a : ℤ → ℝ
  r : ℤ → ℝ
  d : ℤ → ℝ
  g : ℤ → ℝ

/-- All three kinds together. -/
def Diag.all (c : Diag) (l : ℤ) : ℝ := c.a l + c.r l + c.d l

/-- The next antidiagonal. -/
def next (w : ℤ → ℝ) (c : Diag) : Diag where
  a l := w l * (c.g (l - 1) + 1)
  r l := go * c.a l + ge * c.r l
  d l := go * (c.a (l - 1) + c.r (l - 1)) + ge * c.d (l - 1)
  g l := c.all l

/-- The antidiagonal after `n` steps: `run X (d + 1)` is antidiagonal `d`. -/
def run (X : ℕ → ℕ → ℝ) : ℕ → Diag
  | 0 => ⟨fun _ => 0, fun _ => 0, fun _ => 0, fun _ => 0⟩
  | n + 1 => next (wt X n) (run X n)

/-- The contributions of row `l` to the sum over all alignments, after `n` steps. -/
def acc (X : ℕ → ℕ → ℝ) : ℕ → ℤ → ℝ
  | 0, _ => 0
  | n + 1, l => acc X n l + (run X (n + 1)).all l * wt' X n l

/-- Every entry is nonnegative. -/
structure Nonneg (c : Diag) : Prop where
  a : ∀ l, 0 ≤ c.a l
  r : ∀ l, 0 ≤ c.r l
  d : ∀ l, 0 ≤ c.d l
  g : ∀ l, 0 ≤ c.g l

theorem run_nonneg (X : ℕ → ℕ → ℝ) : ∀ n, Nonneg (run X n)
  | 0 => ⟨fun _ => le_rfl, fun _ => le_rfl, fun _ => le_rfl, fun _ => le_rfl⟩
  | n + 1 =>
    have h := run_nonneg X n
    have o := go_pos.le
    have e := ge_pos.le
    ⟨fun l => mul_nonneg (wt_nonneg X n l) (add_nonneg (h.g _) zero_le_one),
     fun l => add_nonneg (mul_nonneg o (h.a l)) (mul_nonneg e (h.r l)),
     fun l => add_nonneg (mul_nonneg o (add_nonneg (h.a _) (h.r _))) (mul_nonneg e (h.d _)),
     fun l => add_nonneg (add_nonneg (h.a l) (h.r l)) (h.d l)⟩

theorem all_nonneg (X : ℕ → ℕ → ℝ) (n : ℕ) (l : ℤ) : 0 ≤ (run X n).all l :=
  add_nonneg (add_nonneg ((run_nonneg X n).a l) ((run_nonneg X n).r l)) ((run_nonneg X n).d l)

/-- Left of the table and beyond its diagonal nothing has arrived. -/
theorem run_zero (X : ℕ → ℕ → ℝ) : ∀ (n : ℕ) (l : ℤ), l < 0 ∨ (n : ℤ) ≤ l →
    (run X n).a l = 0 ∧ (run X n).r l = 0 ∧ (run X n).d l = 0 ∧ (run X n).g l = 0
  | 0, _, _ => ⟨rfl, rfl, rfl, rfl⟩
  | n + 1, l, hl => by
    have hl' : l < 0 ∨ (n : ℤ) ≤ l := by push_cast at hl; omega
    have hm : l - 1 < 0 ∨ (n : ℤ) ≤ l - 1 := by push_cast at hl; omega
    obtain ⟨a, r, d, g⟩ := run_zero X n l hl'
    obtain ⟨a', r', d', g'⟩ := run_zero X n (l - 1) hm
    have hw : wt X n l = 0 := if_neg (by unfold Inside; push_cast at hl; omega)
    refine ⟨?_, ?_, ?_, ?_⟩
    · show wt X n l * _ = 0
      rw [hw, zero_mul]
    · show go * (run X n).a l + ge * (run X n).r l = 0
      rw [a, r]; ring
    · show go * ((run X n).a (l - 1) + (run X n).r (l - 1)) + ge * (run X n).d (l - 1) = 0
      rw [a', r', d']; ring
    · show (run X n).a l + (run X n).r l + (run X n).d l = 0
      rw [a, r, d]; ring

theorem acc_nonneg (X : ℕ → ℕ → ℝ) (l : ℤ) : ∀ n, 0 ≤ acc X n l
  | 0 => le_rfl
  | n + 1 => add_nonneg (acc_nonneg X l n) (mul_nonneg (all_nonneg X _ l) (wt'_nonneg X n l))

/-- The contributions as a sum over the steps. -/
theorem acc_eq_sum (X : ℕ → ℕ → ℝ) (l : ℤ) (n : ℕ) :
    acc X n l = ∑ d ∈ Finset.range n, (run X (d + 1)).all l * wt' X d l := by
  induction n with
  | zero => rfl
  | succ n ih => rw [Finset.sum_range_succ, ← ih]; rfl

/-- The sum over all alignments. -/
def whole (X : ℕ → ℕ → ℝ) : ℝ :=
  ∑ a : Fin 255, ∑ b : Fin 255, (run X (a.val + b.val + 1)).all (a.val : ℤ) * Real.exp (X (a.val + 1) (b.val + 1))

/-- After 512 steps a row's contributions are its cells'. -/
theorem acc_full (X : ℕ → ℕ → ℝ) (a : Fin 255) :
    acc X 512 (a.val : ℤ) = ∑ b : Fin 255, (run X (a.val + b.val + 1)).all (a.val : ℤ) * Real.exp (X (a.val + 1) (b.val + 1)) := by
  rw [acc_eq_sum]
  have ha := a.isLt
  symm
  rw [← Finset.sum_subset (s₁ := Finset.Ico a.val (a.val + 255)) (s₂ := Finset.range 512)]
  · rw [Finset.sum_Ico_eq_sum_range, Nat.add_sub_cancel_left, Finset.sum_range]
    refine Finset.sum_congr rfl fun b _ => ?_
    have hb := b.isLt
    congr 1
    unfold wt'
    rw [if_pos (by unfold Inside; push_cast; omega)]
    congr 3
    push_cast; omega
  · intro d hd
    simp only [Finset.mem_Ico, Finset.mem_range] at hd ⊢
    omega
  · intro d _ hd
    simp only [Finset.mem_Ico] at hd
    unfold wt'
    rw [if_neg (by unfold Inside; omega), mul_zero]

/-- The last lane holds no cell. -/
theorem acc_last (X : ℕ → ℕ → ℝ) (l : ℤ) (hl : 254 < l) : ∀ n, acc X n l = 0
  | 0 => rfl
  | n + 1 => by
    show acc X n l + _ * wt' X n l = 0
    rw [acc_last X l hl n]
    unfold wt'
    rw [if_neg (by unfold Inside; omega), mul_zero, add_zero]

theorem sum_acc (X : ℕ → ℕ → ℝ) : ∑ l : Fin 256, acc X 512 (l.val : ℤ) = whole X := by
  rw [Fin.sum_univ_castSucc (n := 255)]
  rw [acc_last X _ (by simp), add_zero]
  exact Finset.sum_congr rfl fun a _ => acc_full X a

/-- The first pair alone already counts. -/
theorem whole_pos (X : ℕ → ℕ → ℝ) : 0 < whole X := by
  unfold whole
  have hn : ∀ a b : Fin 255, 0 ≤ (run X (a.val + b.val + 1)).all (a.val : ℤ) * Real.exp (X (a.val + 1) (b.val + 1)) :=
    fun a b => mul_nonneg (all_nonneg X _ _) (Real.exp_pos _).le
  refine Finset.sum_pos' (fun a _ => Finset.sum_nonneg fun b _ => hn a b) ⟨0, Finset.mem_univ _, ?_⟩
  refine Finset.sum_pos' (fun b _ => hn 0 b) ⟨0, Finset.mem_univ _, ?_⟩
  refine mul_pos ?_ (Real.exp_pos _)
  have h1 : (run X 1).a 0 = Real.exp (X 0 0) := by
    show wt X 0 0 * ((0 : ℝ) + 1) = _
    unfold wt
    rw [if_pos (by unfold Inside; omega)]
    simp
  have h2 := (run_nonneg X 1).r 0
  have h3 := (run_nonneg X 1).d 0
  have h4 := Real.exp_pos (X 0 0)
  show 0 < (run X 1).a 0 + (run X 1).r 0 + (run X 1).d 0
  rw [h1]; linarith

open Idealize.ShloMosaic

/-- A nonnegative number's logarithm, minus infinity at zero. -/
def lg (c : ℝ) : EReal := Idealize.ShloMosaic.Ideal.log (c : EReal)

theorem lg_zero : lg 0 = ⊥ := by unfold lg; rw [Idealize.ShloMosaic.Ideal.log_coe, if_pos le_rfl]
theorem lg_pos {c : ℝ} (h : 0 < c) : lg c = (Real.log c : EReal) := by
  unfold lg; rw [Idealize.ShloMosaic.Ideal.log_coe, if_neg (not_le.mpr h)]
theorem lg_ne_top (c : ℝ) : lg c ≠ ⊤ := by
  unfold lg; rw [Idealize.ShloMosaic.Ideal.log_coe]; split_ifs
  · exact bot_ne_top
  · exact EReal.coe_ne_top _

/-- Adding to a logarithm multiplies. -/
theorem lg_add {c : ℝ} (h : 0 ≤ c) (x : ℝ) : lg c + (x : EReal) = lg (c * Real.exp x) := by
  rcases h.eq_or_lt with rfl | h
  · rw [zero_mul, lg_zero, EReal.bot_add]
  · rw [lg_pos h, lg_pos (mul_pos h (Real.exp_pos x)), Real.log_mul h.ne' (Real.exp_pos x).ne', Real.log_exp, EReal.coe_add]

theorem lg_add_log {c o : ℝ} (h : 0 ≤ c) (ho : 0 < o) : lg c + lg o = lg (c * o) := by
  rw [lg_pos ho, lg_add h, Real.exp_log ho]

/-- The exponential of a logarithm moved by a real number. -/
theorem exp_lg_sub {c : ℝ} (h : 0 ≤ c) (x : ℝ) : Idealize.ShloMosaic.Ideal.exp (lg c - (x : EReal)) = ((c * Real.exp (-x) : ℝ) : EReal) := by
  rcases h.eq_or_lt with rfl | h
  · rw [zero_mul, lg_zero, EReal.bot_sub]; rfl
  · rw [lg_pos h, ← EReal.coe_sub, Idealize.ShloMosaic.Ideal.exp_coe, sub_eq_add_neg, Real.exp_add, Real.exp_log h]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a sum of exponentials, the entries moved by any real number. -/
theorem lse {ι : Type} (s : Finset ι) (c : ι → ℝ) (h : ∀ i ∈ s, 0 ≤ c i) (x : ℝ) :
    Idealize.ShloMosaic.Ideal.log (∑ i ∈ s, Idealize.ShloMosaic.Ideal.exp (lg (c i) - (x : EReal))) + (x : EReal) = lg (∑ i ∈ s, c i) := by
  have e : ∑ i ∈ s, Idealize.ShloMosaic.Ideal.exp (lg (c i) - (x : EReal)) = (((∑ i ∈ s, c i) * Real.exp (-x) : ℝ) : EReal) := by
    rw [Finset.sum_mul, coe_sum]
    exact Finset.sum_congr rfl fun i hi => exp_lg_sub (h i hi) x
  have hs : 0 ≤ ∑ i ∈ s, c i := Finset.sum_nonneg h
  rw [e]
  show lg _ + _ = _
  rw [lg_add (mul_nonneg hs (Real.exp_pos _).le), mul_assoc, ← Real.exp_add, neg_add_cancel, Real.exp_zero, mul_one]

/-- The largest of finitely many logarithms is not plus infinity. -/
theorem fold_max_ne_top {ι : Type} (s : Finset ι) (f : ι → EReal) (h : ∀ i ∈ s, f i ≠ ⊤) : s.fold max ⊥ f ≠ ⊤ := by
  classical
  induction s using Finset.induction_on with
  | empty => simp
  | insert a s ha ih =>
    rw [Finset.fold_insert ha]
    intro e
    rcases max_choice (f a) (s.fold max ⊥ f) with h' | h'
    · exact h a (Finset.mem_insert_self a s) (h' ▸ e)
    · exact ih (fun i hi => h i (Finset.mem_insert_of_mem hi)) (h' ▸ e)

theorem le_fold_max {ι : Type} (s : Finset ι) (f : ι → EReal) (i : ι) (hi : i ∈ s) : f i ≤ s.fold max ⊥ f :=
  (Finset.le_fold_max (f i)).mpr (Or.inr ⟨i, hi, le_rfl⟩)

end SwSpec

end
-- ==== Proof.Lookup.lean ====
/- What the kernel looks up at a step: the masked exponentials are the table's weights, and looked up one step later from
   the shifted tables they are the shifted ones. -/
module

public import proofs.«01_k».proof.Proof.Shift
public import proofs.«01_k».proof.Proof.Spec

@[expose] public section

noncomputable section

namespace SwModel

open Idealize.ShloMosaic SwSpec

/-- Entry `(p, b, l)` of the scores, and `(b, l)` of the letters. -/
def ix3 (p : Fin 4) (b : Fin 16) (l : Fin 256) : Scores.Idx := fun a => match a with
  | 0 => p
  | 1 => b
  | 2 => l
def ixs (b : Fin 16) (l : Fin 256) : Sheet.Idx := fun a => match a with
  | 0 => b
  | 1 => l
def ixp (b : Fin 16) (l : Fin 256) : Page.Idx := fun a => match a with
  | 0 => (0 : Fin 1)
  | 1 => b
  | 2 => l

/-- The batch entry of row `r` of the half from `r0`. -/
def entry (r0 : ℕ) (h : r0 ≤ 8) (r : Fin 8) : Fin 16 := ⟨r0 + r, by omega⟩

theorem half_apply {α : Type} (t : Sheet.Idx → α) (r0 : ℕ) (h : r0 ≤ 8) (r : Fin 8) (l : Fin 256) :
    extractStridedSlice T ![r0, 0] t (slices_half r0 h) (ix r l) = t (ixs (entry r0 h r) l) :=
  extractStridedSlice_apply _ _ _ _ _ fun a => by fin_cases a <;> simp [ix, ixs, entry]

theorem plane_apply (x : FVec Ideal Scores .f32) (p : Fin 4) (r0 : ℕ) (h : r0 ≤ 8) (r : Fin 8) (l : Fin 256) :
    plane x p r0 h (ix r l) = x (ix3 p (entry r0 h r) l) := by
  unfold plane
  rw [half_apply _ r0 h, shapeCast_apply _ _ _ (ixp (entry r0 h r) l)]
  · exact extractStridedSlice_apply _ _ _ _ _ fun a => by fin_cases a <;> simp [ix3, ixp]
  · rw [Shape.rowMajor_val_three, Shape.rowMajor_val_two]
    simp [ixp, ixs]

theorem lanes_val (r : Fin 8) (l : Fin 256) : lanes (ix r l) = BitVec.ofNat 32 l.val := by
  unfold lanes iota
  simp [ix]

theorem lt255 (l : Fin 256) : IntOp.cmpi .slt (BitVec.ofNat 32 l.val) 255#32 = BitVec.ofBool (decide (l.val < 255)) := by
  revert l; decide +kernel

theorem ofBool_eq_one (b : Bool) : (BitVec.ofBool b = 1) = (b = true) := by cases b <;> simp

theorem clipped_apply (x : V Ideal) (r : Fin 8) (l : Fin 256) :
    clipped x (ix r l) = if l.val < 255 then x (ix r l) else (0 : EReal) := by
  show Scalar.select (IntOp.cmpi .slt (lanes (ix r l)) 255#32) (x (ix r l)) (zeros (ix r l)) = _
  rw [lanes_val, lt255]
  unfold Scalar.select
  simp only [ofBool_eq_one, decide_eq_true_eq]
  congr 1
  exact zero_word

theorem turned_apply (x : V Ideal) (r : Fin 8) (l : Fin 256) (hl : l.val < 255) :
    turned x (ix r l) = x (ix r ⟨l + 1, by omega⟩) := by
  unfold turned
  refine (join_apply 255 (by omega) _ _ r l).trans ?_
  rw [dif_pos hl, lanes_apply 1 255 (by omega)]
  congr 2; exact Fin.ext (by simp [Nat.add_comm])

/-- The scores and letters are real numbers and letters of the alphabet: `P b l p` scores letter `p` at position `l`, and
    `τ b l` is the target's letter. -/
structure Reads (x : FVec Ideal Scores .f32) (t : IVec Sheet 32) (P : Fin 16 → ℕ → Fin 4 → ℝ) (τ : Fin 16 → ℕ → Fin 4) : Prop where
  score : ∀ p b (l : Fin 256), x (ix3 p b l) = ((P b l p : ℝ) : EReal)
  letter : ∀ b (l : Fin 256), t (ixs b l) = BitVec.ofNat 32 (τ b ((256 - l) % 256)).val

/-- The scores of one batch entry's pairs. -/
def pairs (P : Fin 16 → ℕ → Fin 4 → ℝ) (τ : Fin 16 → ℕ → Fin 4) (b : Fin 16) (i j : ℕ) : ℝ := P b i (τ b j)

/-- The masks and the letters of a trip that starts at step `d`: the lanes in the table, and the target's letters turned. -/
structure Look (m : ℕ → IVec T 1) (w : ℕ → IVec T 32) (σ : Fin 8 → ℕ → Fin 4) (d : ℕ) : Prop where
  mask : ∀ k < 64, ∀ (r : Fin 8) (l : Fin 256), m k (ix r l) = 1 ↔ (l.val ≤ d + k ∧ d + k ≤ l.val + 254)
  word : ∀ k < 64, ∀ (r : Fin 8) (l : Fin 256), w k (ix r l) = BitVec.ofNat 32 (σ r ((d + k + 256 - l) % 256)).val

theorem sel4_apply (w : IVec T 32) (f : Fin 4 → V Ideal) (j : T.Idx) (n : Fin 4) (h : w j = BitVec.ofNat 32 n.val) :
    sel4 w (quad f) j = f n j := by
  show Scalar.select (IntOp.cmpi .eq (w j) 0#32) (f 0 j) (Scalar.select (IntOp.cmpi .eq (w j) 1#32) (f 1 j)
    (Scalar.select (IntOp.cmpi .eq (w j) 2#32) (f 2 j) (f 3 j))) = _
  rw [h]
  fin_cases n <;> rfl

theorem pick_apply (m : IVec T 1) (w : IVec T 32) (f : Fin 4 → V Ideal) (j : T.Idx) (n : Fin 4)
    (h : w j = BitVec.ofNat 32 n.val) :
    pick zeros m w (quad f) j = if m j = 1 then f n j else (0 : EReal) := by
  show Scalar.select (m j) (sel4 w (quad f) j) (zeros j) = _
  rw [sel4_apply w f j n h]
  unfold Scalar.select
  congr 1
  exact zero_word

variable {m : ℕ → IVec T 1} {w : ℕ → IVec T 32} {σ : Fin 8 → ℕ → Fin 4} {d : ℕ}

/-- Looked up one step later from the shifted table, the lanes are those of now, shifted. -/
theorem sh_pick (L : Look m w σ d) (f g : Fin 4 → V Ideal) (hg : ∀ p, g p = sh 1 (by omega) (f p)) (i : ℕ) (hi : i < 63) :
    sh 1 (by omega) (pick zeros (m i) (w i) (quad f)) = pick zeros (m (i + 1)) (w (i + 1)) (quad g) :=
  tile_ext fun r l => by
    rw [sh_apply, pick_apply _ _ _ _ _ (L.word (i + 1) (by omega) r l)]
    have hm := L.mask (i + 1) (by omega) r l
    rw [hg, sh_apply]
    by_cases h0 : l.val < 1
    · rw [if_pos h0, if_pos h0, ite_self]
    · rw [if_neg h0, if_neg h0]
      have hm' := L.mask i (by omega) r ⟨l.val - 1, by omega⟩
      have hw := L.word i (by omega) r ⟨l.val - 1, by omega⟩
      rw [pick_apply _ _ _ _ _ hw]
      have e : d + i + 256 - (l.val - 1) = d + (i + 1) + 256 - l.val := by omega
      simp only [hm, hm', e]
      congr 1
      simp only [eq_iff_iff]
      omega

variable (x : FVec Ideal Scores .f32) (t : IVec Sheet 32) (P : Fin 16 → ℕ → Fin 4 → ℝ) (τ : Fin 16 → ℕ → Fin 4)

theorem table0 (H : Reads x t P τ) (r0 : ℕ) (h : r0 ≤ 8) (p : Fin 4) (r : Fin 8) (l : Fin 256) :
    clipped (exp (plane x p r0 h)) (ix r l) = if l.val < 255 then ((Real.exp (P (entry r0 h r) l p) : ℝ) : EReal) else 0 := by
  rw [clipped_apply]
  refine if_congr Iff.rfl ?_ rfl
  show Idealize.ShloMosaic.Ideal.exp (plane x p r0 h (ix r l)) = _
  rw [plane_apply, H.score]; rfl

theorem table1 (H : Reads x t P τ) (r0 : ℕ) (h : r0 ≤ 8) (p : Fin 4) (r : Fin 8) (l : Fin 256) :
    clipped (exp (turned (plane x p r0 h))) (ix r l)
      = if l.val < 255 then ((Real.exp (P (entry r0 h r) (l + 1) p) : ℝ) : EReal) else 0 := by
  rw [clipped_apply]
  split_ifs with hl
  · show Idealize.ShloMosaic.Ideal.exp (turned (plane x p r0 h) (ix r l)) = _
    rw [turned_apply _ _ _ hl, plane_apply, H.score]; rfl
  · rfl

/-- The weights of the step's cells. -/
theorem look0 (H : Reads x t P τ) (r0 : ℕ) (h : r0 ≤ 8) (L : Look m w (fun r => τ (entry r0 h r)) d) (k : ℕ) (hk : k < 63)
    (r : Fin 8) (l : Fin 256) :
    pick (tabs x r0 h).z (m k) (w k) (tabs x r0 h).q0 (ix r l) = ((wt (pairs P τ (entry r0 h r)) (d + k) (l.val : ℤ) : ℝ) : EReal) := by
  refine (pick_apply _ _ _ _ _ (L.word k (by omega) r l)).trans ?_
  rw [table0 x t P τ H]
  unfold wt
  have hl := l.isLt
  simp only [L.mask k (by omega) r l]
  by_cases hi : Inside (d + k) (l.val : ℤ)
  · have hi' := hi
    unfold Inside at hi'
    rw [if_pos hi, if_pos (by omega), if_pos (by omega)]
    have e1 : (d + k + 256 - l.val) % 256 = (((d + k : ℕ) : ℤ) - (l.val : ℤ)).toNat := by omega
    rw [e1]; rfl
  · rw [if_neg hi]
    unfold Inside at hi
    split_ifs
    · omega
    · rfl
    · rfl

/-- The weights of the pairs after them. -/
theorem look1 (H : Reads x t P τ) (r0 : ℕ) (h : r0 ≤ 8) (L : Look m w (fun r => τ (entry r0 h r)) d) (k : ℕ) (hk : k < 63)
    (r : Fin 8) (l : Fin 256) :
    pick (tabs x r0 h).z (m k) (w (k + 1)) (tabs x r0 h).e1 (ix r l)
      = ((wt' (pairs P τ (entry r0 h r)) (d + k) (l.val : ℤ) : ℝ) : EReal) := by
  refine (pick_apply _ _ _ _ _ (L.word (k + 1) (by omega) r l)).trans ?_
  rw [table1 x t P τ H]
  unfold wt'
  have hl := l.isLt
  simp only [L.mask k (by omega) r l]
  by_cases hi : Inside (d + k) (l.val : ℤ)
  · have hi' := hi
    unfold Inside at hi'
    rw [if_pos hi, if_pos (by omega), if_pos (by omega)]
    have e1 : (d + (k + 1) + 256 - l.val) % 256 = (((d + k : ℕ) : ℤ) - (l.val : ℤ)).toNat + 1 := by omega
    rw [e1]; rfl
  · rw [if_neg hi]
    unfold Inside at hi
    split_ifs
    · omega
    · rfl
    · rfl

/-- The three conditions under which a group is four plain steps. -/
theorem ahead1 (r0 : ℕ) (h : r0 ≤ 8) (L : Look m w σ d) (i : ℕ) (hi : i < 63) :
    sh 1 (by omega) (pick (tabs x r0 h).z (m i) (w i) (tabs x r0 h).q0) = pick (tabs x r0 h).z (m (i + 1)) (w (i + 1)) (tabs x r0 h).q1 :=
  sh_pick L _ _ (fun _ => rfl) i hi
theorem ahead2 (r0 : ℕ) (h : r0 ≤ 8) (L : Look m w σ d) (i : ℕ) (hi : i < 63) :
    sh 1 (by omega) (pick (tabs x r0 h).z (m i) (w i) (tabs x r0 h).q1) = pick (tabs x r0 h).z (m (i + 1)) (w (i + 1)) (tabs x r0 h).q2 :=
  sh_pick L _ _ (fun _ => (sh_sh 1 1 _ _ _ _).symm) i hi
theorem ahead3 (r0 : ℕ) (h : r0 ≤ 8) (L : Look m w σ d) (i : ℕ) (hi : i < 63) :
    sh 1 (by omega) (pick (tabs x r0 h).z (m i) (w i) (tabs x r0 h).q2) = pick (tabs x r0 h).z (m (i + 1)) (w (i + 1)) (tabs x r0 h).q3 :=
  sh_pick L _ _ (fun _ => (sh_sh 1 2 _ _ _ _).symm) i hi

end SwModel

end
-- ==== Proof.Steps.lean ====
/- A half batch's trips over the extended reals: each state holds, scaled row by row, the antidiagonals of the recurrence. -/
module

public import proofs.«01_k».proof.Proof.Lookup

@[expose] public section

noncomputable section

namespace SwModel

open Idealize.ShloMosaic SwSpec

/-- The state after `n` steps: every row holds the recurrence's values times the row's scale. -/
structure Holds (X : Fin 8 → ℕ → ℕ → ℝ) (c : Fin 8 → ℝ) (s : St Ideal) (n : ℕ) : Prop where
  ea : ∀ r (l : Fin 256), s.ea (ix r l) = ((c r * (run (X r) n).a (l.val : ℤ) : ℝ) : EReal)
  er : ∀ r (l : Fin 256), s.er (ix r l) = ((c r * (run (X r) n).r (l.val : ℤ) : ℝ) : EReal)
  sq : ∀ r (l : Fin 256), s.sq (ix r l) = ((c r * (go * ((run (X r) n).a (l.val : ℤ) + (run (X r) n).r (l.val : ℤ))
    + ge * (run (X r) n).d (l.val : ℤ)) : ℝ) : EReal)
  eg : ∀ r (l : Fin 256), s.eg (ix r l) = ((c r * (run (X r) n).all (l.val : ℤ) : ℝ) : EReal)
  eg2 : ∀ r (l : Fin 256), s.eg2 (ix r l) = ((c r * (run (X r) n).g (l.val : ℤ) : ℝ) : EReal)
  acc : ∀ r (l : Fin 256), s.acc (ix r l) = ((c r * SwSpec.acc (X r) n (l.val : ℤ) : ℝ) : EReal)

theorem open_word : (Scalar.ofBits .f32 0x3C960AAE#32 : Ideal .f32) = ((go : ℝ) : EReal) := by
  show Idealize.ShloMosaic.Ideal.ofBits .f32 0x3C960AAE#32 = _
  unfold go
  simp [Idealize.ShloMosaic.Ideal.ofBits, Idealize.ShloMosaic.Ideal.ieee, -EReal.coe_mul]; norm_num

theorem extend_word : (Scalar.ofBits .f32 0x3EBC5AB2#32 : Ideal .f32) = ((ge : ℝ) : EReal) := by
  show Idealize.ShloMosaic.Ideal.ofBits .f32 0x3EBC5AB2#32 = _
  unfold ge
  simp [Idealize.ShloMosaic.Ideal.ofBits, Idealize.ShloMosaic.Ideal.ieee, -EReal.coe_mul]; norm_num

theorem blend_apply (x y : V Ideal) (j : T.Idx) (a b : ℝ) (ha : x j = ((a : ℝ) : EReal)) (hb : y j = ((b : ℝ) : EReal)) :
    blend x y j = ((go * a + ge * b : ℝ) : EReal) := by
  show (Scalar.ofBits (F := Ideal) .f32 0x3C960AAE#32 : EReal) * (x j : EReal) + (Scalar.ofBits (F := Ideal) .f32 0x3EBC5AB2#32 : EReal) * (y j : EReal) = _
  rw [ha, hb, open_word, extend_word]
  push_cast; rfl

/-- A shifted row of real values is the row one lane to the left, if that is zero left of the first lane. -/
theorem shifted (x : V Ideal) (r : Fin 8) (l : Fin 256) (f : ℤ → ℝ) (hf : f (-1) = 0)
    (hx : ∀ l : Fin 256, x (ix r l) = ((f (l.val : ℤ) : ℝ) : EReal)) :
    sh 1 (by omega) x (ix r l) = ((f ((l.val : ℤ) - 1) : ℝ) : EReal) := by
  rw [sh_apply]
  split_ifs with h
  · have e : (l.val : ℤ) - 1 = -1 := by omega
    rw [e, hf]; rfl
  · rw [hx]
    congr 3
    show ((l.val - 1 : ℕ) : ℤ) = _
    omega

variable {X : Fin 8 → ℕ → ℕ → ℝ} {c : Fin 8 → ℝ} {s : St Ideal} {n : ℕ}

/-- A plain step goes to the next antidiagonal. -/
theorem plain_holds (H : Holds X c s n) (D : Tabs Ideal) (e0 : Col Ideal) (m : IVec T 1) (w w' : IVec T 32)
    (he : ∀ r, e0 (ix r 0) = ((c r : ℝ) : EReal))
    (h0 : ∀ r (l : Fin 256), pick D.z m w D.q0 (ix r l) = ((wt (X r) n (l.val : ℤ) : ℝ) : EReal))
    (h1 : ∀ r (l : Fin 256), pick D.z m w' D.e1 (ix r l) = ((wt' (X r) n (l.val : ℤ) : ℝ) : EReal)) :
    Holds X c (plain D e0 m w w' s) (n + 1) := by
  have left : ∀ r, (run (X r) n).a (-1) = 0 ∧ (run (X r) n).r (-1) = 0 ∧ (run (X r) n).d (-1) = 0 ∧ (run (X r) n).g (-1) = 0 :=
    fun r => run_zero (X r) n (-1) (Or.inl (by norm_num))
  have hea : ∀ r (l : Fin 256), (plain D e0 m w w' s).ea (ix r l) = ((c r * (run (X r) (n + 1)).a (l.val : ℤ) : ℝ) : EReal) := by
    intro r l
    have hg := shifted s.eg2 r l (fun l => c r * (run (X r) n).g l) (by simp only [(left r).2.2.2, mul_zero]) (H.eg2 r)
    show (pick D.z m w D.q0 (ix r l) : EReal) * ((sh 1 (by omega) s.eg2 (ix r l) : EReal) + (broadcastTo T e0 spreads_rows (ix r l) : EReal)) = _
    rw [hg, spread_apply, he, h0]
    show _ = ((c r * (wt (X r) n (l.val : ℤ) * ((run (X r) n).g ((l.val : ℤ) - 1) + 1)) : ℝ) : EReal)
    norm_cast
    ring
  have her : ∀ r (l : Fin 256), (plain D e0 m w w' s).er (ix r l) = ((c r * (run (X r) (n + 1)).r (l.val : ℤ) : ℝ) : EReal) := by
    intro r l
    refine (blend_apply _ _ _ _ _ (H.ea r l) (H.er r l)).trans ?_
    show _ = ((c r * (go * (run (X r) n).a (l.val : ℤ) + ge * (run (X r) n).r (l.val : ℤ)) : ℝ) : EReal)
    congr 1; ring
  have hs : ∀ r (l : Fin 256), addf (plain D e0 m w w' s).ea (plain D e0 m w w' s).er (ix r l)
      = ((c r * ((run (X r) (n + 1)).a (l.val : ℤ) + (run (X r) (n + 1)).r (l.val : ℤ)) : ℝ) : EReal) := by
    intro r l
    show ((plain D e0 m w w' s).ea (ix r l) : EReal) + ((plain D e0 m w w' s).er (ix r l) : EReal) = _
    rw [hea, her]
    norm_cast
    ring
  have hd : ∀ r (l : Fin 256), sh 1 (by omega) s.sq (ix r l) = ((c r * (run (X r) (n + 1)).d (l.val : ℤ) : ℝ) : EReal) := by
    intro r l
    exact shifted s.sq r l (fun l => c r * (go * ((run (X r) n).a l + (run (X r) n).r l) + ge * (run (X r) n).d l))
      (by simp only [(left r).1, (left r).2.1, (left r).2.2.1]; ring) (H.sq r)
  have heg : ∀ r (l : Fin 256), (plain D e0 m w w' s).eg (ix r l) = ((c r * (run (X r) (n + 1)).all (l.val : ℤ) : ℝ) : EReal) := by
    intro r l
    show (addf (plain D e0 m w w' s).ea (plain D e0 m w w' s).er (ix r l) : EReal) + (sh 1 (by omega) s.sq (ix r l) : EReal) = _
    rw [hs, hd]
    unfold Diag.all
    norm_cast
    ring
  refine ⟨hea, her, ?_, heg, H.eg, ?_⟩
  · intro r l
    refine (blend_apply _ _ _ _ _ (hs r l) (hd r l)).trans ?_
    congr 1; ring
  · intro r l
    show (s.acc (ix r l) : EReal) + ((plain D e0 m w w' s).eg (ix r l) : EReal) * (pick D.z m w' D.e1 (ix r l) : EReal) = _
    rw [heg, h1, H.acc]
    show _ = ((c r * (SwSpec.acc (X r) n (l.val : ℤ) + (run (X r) (n + 1)).all (l.val : ℤ) * wt' (X r) n (l.val : ℤ)) : ℝ) : EReal)
    norm_cast
    ring

variable (x : FVec Ideal Scores .f32) (t : IVec Sheet 32) (P : Fin 16 → ℕ → Fin 4 → ℝ) (τ : Fin 16 → ℕ → Fin 4)
variable (r0 : ℕ) (h : r0 ≤ 8) {d : ℕ} {m : ℕ → IVec T 1} {w : ℕ → IVec T 32}

/-- `k` groups of a trip make `4 k` steps. -/
theorem groups_holds (R : Reads x t P τ) (L : Look m w (fun r => τ (entry r0 h r)) d) (e0 : Col Ideal)
    (he : ∀ r, e0 (ix r 0) = ((c r : ℝ) : EReal)) (H : Holds (fun r => pairs P τ (entry r0 h r)) c s d) :
    ∀ k ≤ 8, Holds (fun r => pairs P τ (entry r0 h r)) c (groups (tabs x r0 h) e0 m w s k) (d + 4 * k)
  | 0, _ => H
  | k + 1, hk => by
    have ih := groups_holds R L e0 he H k (by omega)
    show Holds _ _ (group (tabs x r0 h) e0 m w (4 * k) (groups (tabs x r0 h) e0 m w s k)) _
    rw [group_eq _ _ _ _ _ _ (fun i hi => ahead1 x r0 h L i (by omega)) (fun i hi => ahead2 x r0 h L i (by omega))
      (fun i hi => ahead3 x r0 h L i (by omega))]
    have p0 := plain_holds ih (tabs x r0 h) e0 (m (4 * k)) (w (4 * k)) (w (4 * k + 1)) he
      (look0 x t P τ R r0 h L (4 * k) (by omega)) (look1 x t P τ R r0 h L (4 * k) (by omega))
    have p1 := plain_holds p0 (tabs x r0 h) e0 (m (4 * k + 1)) (w (4 * k + 1)) (w (4 * k + 2)) he
      (look0 x t P τ R r0 h L (4 * k + 1) (by omega)) (look1 x t P τ R r0 h L (4 * k + 1) (by omega))
    have p2 := plain_holds p1 (tabs x r0 h) e0 (m (4 * k + 2)) (w (4 * k + 2)) (w (4 * k + 3)) he
      (look0 x t P τ R r0 h L (4 * k + 2) (by omega)) (look1 x t P τ R r0 h L (4 * k + 2) (by omega))
    exact plain_holds p2 (tabs x r0 h) e0 (m (4 * k + 3)) (w (4 * k + 3)) (w (4 * k + 4)) he
      (look0 x t P τ R r0 h L (4 * k + 3) (by omega)) (look1 x t P τ R r0 h L (4 * k + 3) (by omega))

end SwModel

end
-- ==== Proof.Trips.lean ====
/- The sixteen trips over the extended reals: each divides its rows by a real number of at least one, keeps the logarithm of
   that in the scale, and goes 32 antidiagonals on. -/
module

public import proofs.«01_k».proof.Proof.Steps
public import Idealize.ShloMosaic.Lib.ValueLayoutCasts

@[expose] public section

noncomputable section

namespace SwModel

open Idealize.ShloMosaic SwSpec

/-! ## The masks and the letters of a trip -/

/-- A signed comparison of a difference of two small words with zero. -/
theorem sub_sle (l n : ℕ) (hl : l < 256) (hn : n < 1024) :
    (IntOp.cmpi .sle (BitVec.ofNat 32 l - BitVec.ofNat 32 n) 0#32 = 1) ↔ l ≤ n := by
  have e : (BitVec.ofNat 32 l - BitVec.ofNat 32 n).toInt = (l : ℤ) - n := by
    rw [BitVec.toInt_sub, BitVec.toInt_ofNat', BitVec.toInt_ofNat']
    simp only [Int.bmod]; omega
  show BitVec.ofBool (BitVec.sle _ _) = 1 ↔ _
  rw [ofBool_eq_one, BitVec.sle_iff_toInt_le, e]
  show (l : ℤ) - n ≤ 0 ↔ _
  omega

/-- The same with minus 254 from below. -/
theorem sub_sge (l n : ℕ) (hl : l < 256) (hn : n < 1024) :
    (IntOp.cmpi .sge (BitVec.ofNat 32 l - BitVec.ofNat 32 n) 4294967042#32 = 1) ↔ n ≤ l + 254 := by
  have e : (BitVec.ofNat 32 l - BitVec.ofNat 32 n).toInt = (l : ℤ) - n := by
    rw [BitVec.toInt_sub, BitVec.toInt_ofNat', BitVec.toInt_ofNat']
    simp only [Int.bmod]; omega
  show BitVec.ofBool (BitVec.sle _ _) = 1 ↔ _
  rw [ofBool_eq_one, BitVec.sle_iff_toInt_le, e]
  show (-254 : ℤ) ≤ (l : ℤ) - n ↔ _
  omega

theorem and_eq_one (a b : BitVec 1) : a &&& b = 1 ↔ a = 1 ∧ b = 1 := by revert a b; decide

/-- The lane's number less the steps before the trip. -/
theorem ahead_apply (i : ℕ) (r : Fin 8) (l : Fin 256) :
    ahead lanes (Scf.iv 0#32 1#32 i) (ix r l) = BitVec.ofNat 32 l.val - BitVec.ofNat 32 (32 * i) := by
  show lanes (ix r l) - (0#32 + BitVec.ofNat 32 i * 1#32) * 32#32 = _
  rw [lanes_val, BitVec.zero_add, BitVec.mul_one]
  congr 1
  apply BitVec.eq_of_toNat_eq
  simp [BitVec.toNat_mul, Nat.mul_comm]

theorem mask_apply (i k : ℕ) (hi : i < 16) (hk : k < 64) (r : Fin 8) (l : Fin 256) :
    mask (ahead lanes (Scf.iv 0#32 1#32 i)) k (ix r l) = 1 ↔ (l.val ≤ 32 * i + k ∧ 32 * i + k ≤ l.val + 254) := by
  show (IntOp.cmpi .sle (ahead lanes (Scf.iv 0#32 1#32 i) (ix r l) - BitVec.ofNat 32 k) 0#32)
    &&& (IntOp.cmpi .sge (ahead lanes (Scf.iv 0#32 1#32 i) (ix r l) - BitVec.ofNat 32 k) 4294967042#32) = 1 ↔ _
  have e : ahead lanes (Scf.iv 0#32 1#32 i) (ix r l) - BitVec.ofNat 32 k = BitVec.ofNat 32 l.val - BitVec.ofNat 32 (32 * i + k) := by
    rw [ahead_apply, BitVec.ofNat_add]
    generalize BitVec.ofNat 32 l.val = a
    generalize BitVec.ofNat 32 (32 * i) = b
    generalize BitVec.ofNat 32 k = c
    rw [BitVec.sub_sub]
  rw [e, and_eq_one, sub_sle _ _ l.isLt (by omega), sub_sge _ _ l.isLt (by omega)]

/-- The letters of a half as they lie at step `n`. -/
def Script (σ : Fin 8 → ℕ → Fin 4) (vc : IVec T 32) (n : ℕ) : Prop :=
  ∀ r (l : Fin 256), vc (ix r l) = BitVec.ofNat 32 (σ r ((n + 256 - l) % 256)).val

theorem letters_script {σ : Fin 8 → ℕ → Fin 4} {vc : IVec T 32} {n : ℕ} (h : Script σ vc n) (k : ℕ) (hk : k < 64) :
    Script σ (letters vc k) (n + k) := by
  intro r l
  have hl := l.isLt
  unfold letters
  split_ifs with h0
  · have : k = 0 := by omega
    subst this
    exact h r l
  · rw [rot_apply]
    split_ifs with hlk
    · rw [h]; congr 3; show (n + 256 - (256 - k + l.val)) % 256 = (n + k + 256 - l.val) % 256; omega
    · rw [h]; congr 3; show (n + 256 - (l.val - k)) % 256 = (n + k + 256 - l.val) % 256; omega

theorem trip_look {σ : Fin 8 → ℕ → Fin 4} {vc : IVec T 32} (i : ℕ) (hi : i < 16) (h : Script σ vc (32 * i)) :
    Look (mask (ahead lanes (Scf.iv 0#32 1#32 i))) (letters vc) σ (32 * i) where
  mask k hk r l := mask_apply i k hi hk r l
  word k hk r l := letters_script h k hk r l

/-! ## The rescaling -/

/-- Row `r` of a column without a lane axis. -/
def ixr (r : Fin 8) : Rows.Idx := fun a => match a with
  | 0 => r

/-- A row's maximum over the lanes. -/
theorem row_max (x : V Ideal) (r : Fin 8) :
    shapeCast (W 1) (multiReduction .maximumf [1] Rows x 0xFF800000#32 reduces_rows (.inl rfl) rfl) casts_rows (ix r 0)
      = (Finset.univ : Finset (Fin 256)).fold max ⊥ fun l => (x (ix r l) : EReal) := by
  rw [shapeCast_apply _ _ _ (ixr r)]
  · refine (Idealize.ShloMosaic.Ideal.multiReduction_maximumf_single (s := T) (t := Rows) (a := 1) x 0xFF800000#32 reduces_rows (.inl rfl) rfl (ixr r)).trans ?_
    have hb : (FloatOps.ofBits .f32 0xFF800000#32 : Ideal .f32) = (⊥ : EReal) := by
      show Idealize.ShloMosaic.Ideal.ofBits .f32 0xFF800000#32 = _
      simp [Idealize.ShloMosaic.Ideal.ofBits, Idealize.ShloMosaic.Ideal.ieee]
    rw [hb]
    refine congrArg (fun f => (Finset.univ : Finset (Fin 256)).fold max ⊥ f) (funext fun l => ?_)
    show x (reduces_rows.lift _ l) = x (ix r l)
    congr 1
    funext a; fin_cases a <;> rfl
  · rw [Shape.rowMajor_val_one, Shape.rowMajor_val_two]
    simp [ix, ixr]

/-- The divisor of a row is a real number of at least one. -/
theorem top_real (x : V Ideal) (r : Fin 8) (f : Fin 256 → ℝ) (hx : ∀ l, x (ix r l) = ((f l : ℝ) : EReal)) :
    ∃ m : ℝ, 1 ≤ m ∧ top x (ix r 0) = ((m : ℝ) : EReal) := by
  have e : top x (ix r 0) = max ((Finset.univ : Finset (Fin 256)).fold max ⊥ fun l => (x (ix r l) : EReal)) (1 : EReal) := by
    show max _ (Scalar.ofBits (F := Ideal) .f32 0x3F800000#32 : EReal) = _
    rw [one_word, ← row_max]
  have h1 : (1 : EReal) ≤ top x (ix r 0) := by rw [e]; exact le_max_right _ _
  have h2 : top x (ix r 0) ≠ (⊤ : EReal) := by
    rw [e]
    intro h
    rcases max_choice ((Finset.univ : Finset (Fin 256)).fold max ⊥ fun l => (x (ix r l) : EReal)) (1 : EReal) with h' | h'
    · exact fold_max_ne_top _ _ (fun l _ => by rw [hx]; exact EReal.coe_ne_top _) (h' ▸ h)
    · exact EReal.coe_ne_top 1 (h'.symm.trans h)
  have h3 : top x (ix r 0) ≠ (⊥ : EReal) := fun h => by
    rw [h] at h1
    exact absurd (le_bot_iff.mp h1) (EReal.coe_ne_bot 1)
  refine ⟨(top x (ix r 0) : EReal).toReal, ?_, (EReal.coe_toReal h2 h3).symm⟩
  rw [← EReal.coe_toReal h2 h3] at h1
  exact_mod_cast h1

/-- A tile of real values over the row's divisor. -/
theorem scaled_apply (c : Col Ideal) (x : V Ideal) (r : Fin 8) (l : Fin 256) (m a : ℝ) (hm : 1 ≤ m)
    (hc : c (ix r 0) = ((m : ℝ) : EReal)) (hx : x (ix r l) = ((a : ℝ) : EReal)) :
    scaled c x (ix r l) = ((a / m : ℝ) : EReal) := by
  show (x (ix r l) : EReal) * (broadcastTo T _ spreads_rows (ix r l) : EReal) = _
  rw [spread_apply]
  show _ * Idealize.ShloMosaic.Ideal.div (Scalar.ofBits (F := Ideal) .f32 0x3F800000#32 : EReal) (c (ix r 0)) = _
  rw [one_word, hc, hx, Idealize.ShloMosaic.Ideal.div_coe (by linarith), one_mul]
  norm_cast
  ring

/-! ## A trip -/

/-- What a half batch carries after `n` steps: the logarithms of its scale, its state, and its letters. -/
structure Half (X : Fin 8 → ℕ → ℕ → ℝ) (σ : Fin 8 → ℕ → Fin 4) (mx : Col Ideal) (s : St Ideal) (vc : IVec T 32) (n : ℕ) : Prop where
  state : ∃ M : Fin 8 → ℝ, (∀ r, mx (ix r 0) = ((M r : ℝ) : EReal)) ∧ Holds X (fun r => Real.exp (-M r)) s n
  script : Script σ vc n

variable (x : FVec Ideal Scores .f32) (t : IVec Sheet 32) (P : Fin 16 → ℕ → Fin 4 → ℝ) (τ : Fin 16 → ℕ → Fin 4)

theorem trip_half (R : Reads x t P τ) (r0 : ℕ) (h : r0 ≤ 8) {mx : Col Ideal} {s : St Ideal} {vc : IVec T 32} (i : ℕ) (hi : i < 16)
    (H : Half (fun r => pairs P τ (entry r0 h r)) (fun r => τ (entry r0 h r)) mx s vc (32 * i)) :
    Half (fun r => pairs P τ (entry r0 h r)) (fun r => τ (entry r0 h r)) (lift mx s.eg)
      (trip (tabs x r0 h) (ahead lanes (Scf.iv 0#32 1#32 i)) mx vc s) (letters vc 32) (32 * (i + 1)) := by
  obtain ⟨⟨M, hM, Hs⟩, hv⟩ := H
  choose m hm1 hm using fun r => top_real s.eg r _ (Hs.eg r)
  have hpos : ∀ r, 0 < m r := fun r => by linarith [hm1 r]
  have hl : ∀ r, lift mx s.eg (ix r 0) = ((M r + Real.log (m r) : ℝ) : EReal) := by
    intro r
    show (mx (ix r 0) : EReal) + Idealize.ShloMosaic.Ideal.log (top s.eg (ix r 0)) = _
    rw [hM, hm, Idealize.ShloMosaic.Ideal.log_coe, if_neg (not_le.mpr (hpos r)), EReal.coe_add]
  have hc : ∀ r, Real.exp (-(M r + Real.log (m r))) = Real.exp (-M r) / m r := by
    intro r
    rw [neg_add, Real.exp_add, Real.exp_neg (Real.log _), Real.exp_log (hpos r), div_eq_mul_inv]
  have hu : ∀ r, unit (lift mx s.eg) (ix r 0) = ((Real.exp (-(M r + Real.log (m r))) : ℝ) : EReal) := by
    intro r
    show Idealize.ShloMosaic.Ideal.exp ((Scalar.ofBits (F := Ideal) .f32 0x00000000#32 : EReal) - (lift mx s.eg (ix r 0) : EReal)) = _
    rw [zero_word, hl, zero_sub, ← EReal.coe_neg, Idealize.ShloMosaic.Ideal.exp_coe]
  have Hr : Holds (fun r => pairs P τ (entry r0 h r)) (fun r => Real.exp (-(M r + Real.log (m r)))) (rescale s) (32 * i) := by
    refine ⟨fun r l => ?_, fun r l => ?_, fun r l => ?_, fun r l => ?_, fun r l => ?_, fun r l => ?_⟩
    · exact (scaled_apply _ _ r l _ _ (hm1 r) (hm r) (Hs.ea r l)).trans (by rw [hc]; congr 1; ring)
    · exact (scaled_apply _ _ r l _ _ (hm1 r) (hm r) (Hs.er r l)).trans (by rw [hc]; congr 1; ring)
    · exact (scaled_apply _ _ r l _ _ (hm1 r) (hm r) (Hs.sq r l)).trans (by rw [hc]; congr 1; ring)
    · exact (scaled_apply _ _ r l _ _ (hm1 r) (hm r) (Hs.eg r l)).trans (by rw [hc]; congr 1; ring)
    · exact (scaled_apply _ _ r l _ _ (hm1 r) (hm r) (Hs.eg2 r l)).trans (by rw [hc]; congr 1; ring)
    · exact (scaled_apply _ _ r l _ _ (hm1 r) (hm r) (Hs.acc r l)).trans (by rw [hc]; congr 1; ring)
  exact ⟨⟨fun r => M r + Real.log (m r), hl, groups_holds x t P τ r0 h R (trip_look i hi hv) _ hu Hr 8 le_rfl⟩,
    letters_script hv 32 (by omega)⟩

/-! ## The start -/

theorem nought_apply (R : Reads x t P τ) (r0 : ℕ) (h : r0 ≤ 8) (r : Fin 8) (l : Fin 256) : nought x r0 h (ix r l) = (0 : EReal) := by
  show (plane x 0 r0 h (ix r l) : EReal) * (Scalar.ofBits (F := Ideal) .f32 0x00000000#32 : EReal) = 0
  rw [zero_word, mul_zero]

theorem start_half (R : Reads x t P τ) (r0 : ℕ) (h : r0 ≤ 8) :
    Half (fun r => pairs P τ (entry r0 h r)) (fun r => τ (entry r0 h r)) (ground x r0 h) (blank x r0 h) (script t r0 h) 0 := by
  refine ⟨⟨fun _ => 0, fun r => ?_, ?_⟩, fun r l => ?_⟩
  · unfold ground
    rw [lanes_apply 0 1 (by omega), nought_apply x t P τ R]; rfl
  · have z : ∀ r (l : Fin 256) (y : ℝ), y = 0 → nought x r0 h (ix r l) = ((Real.exp (-0) * y : ℝ) : EReal) := by
      intro r l y hy
      rw [nought_apply x t P τ R, hy, mul_zero]; rfl
    refine ⟨fun r l => z r l _ rfl, fun r l => z r l _ rfl, fun r l => z r l _ ?_, fun r l => z r l _ ?_, fun r l => z r l _ rfl,
      fun r l => z r l _ rfl⟩
    · show go * ((0 : ℝ) + 0) + ge * 0 = 0
      ring
    · show (0 : ℝ) + 0 + 0 = 0
      ring
  · unfold script
    rw [half_apply _ r0 h, R.letter, Nat.zero_add]

/-- After `n` trips both halves have made `32 n` steps. -/
theorem trips_halves (R : Reads x t P τ) : ∀ n ≤ 16, ∃ (mx : Col Ideal) (s : St Ideal) (vc : IVec T 32) (mx' : Col Ideal) (s' : St Ideal)
    (vc' : IVec T 32), trips x t n = pack mx s vc mx' s' vc'
      ∧ Half (fun r => pairs P τ (entry 0 (by omega) r)) (fun r => τ (entry 0 (by omega) r)) mx s vc (32 * n)
      ∧ Half (fun r => pairs P τ (entry 8 (by omega) r)) (fun r => τ (entry 8 (by omega) r)) mx' s' vc' (32 * n)
  | 0, _ => ⟨_, _, _, _, _, _, rfl, start_half x t P τ R 0 (by omega), start_half x t P τ R 8 (by omega)⟩
  | n + 1, hn => by
    obtain ⟨mx, s, vc, mx', s', vc', e, h, h'⟩ := trips_halves R n (by omega)
    refine ⟨_, _, _, _, _, _, ?_, trip_half x t P τ R 0 (by omega) n (by omega) h, trip_half x t P τ R 8 (by omega) n (by omega) h'⟩
    show chunk (tabs x 0 _) (tabs x 8 _) lanes (Scf.iv 0#32 1#32 n) (trips x t n) = _
    rw [e]
    rfl

end SwModel

end
-- ==== Proof.Final.lean ====
/- The kernel's closing sum over the extended reals: minus the mean, over the batch, of the logarithms of the sums over all
   alignments. -/
module

public import proofs.«01_k».proof.Proof.Trips

@[expose] public section

noncomputable section

namespace SwModel

open Idealize.ShloMosaic SwSpec

/-- A row's sum over the lanes. -/
theorem row_sum (x : V Ideal) (r : Fin 8) :
    shapeCast (W 1) (multiReduction .add [1] Rows x 0x00000000#32 reduces_rows (.inl rfl) rfl) casts_rows (ix r 0)
      = ∑ l : Fin 256, (x (ix r l) : EReal) := by
  rw [shapeCast_apply _ _ _ (ixr r)]
  · refine (Idealize.ShloMosaic.Ideal.multiReduction_add_single (s := T) (t := Rows) (a := 1) x 0x00000000#32 reduces_rows (.inl rfl) rfl (ixr r)).trans ?_
    refine Finset.sum_congr rfl fun l _ => ?_
    show x (reduces_rows.lift _ l) = x (ix r l)
    congr 1
    funext a; fin_cases a <;> rfl
  · rw [Shape.rowMajor_val_one, Shape.rowMajor_val_two]
    simp [ix, ixr]

/-- A row's closing value. -/
theorem rowLog_apply (mx : Col Ideal) (acc : V Ideal) (r : Fin 8) (M : ℝ) (v : Fin 256 → ℝ) (S : ℝ) (hv : ∀ l, 0 ≤ v l)
    (hs : ∑ l, v l = Real.exp (-M) * S) (hS : 0 < S) (hmx : mx (ix r 0) = ((M : ℝ) : EReal))
    (ha : ∀ l, acc (ix r l) = ((v l : ℝ) : EReal)) :
    rowLog (F := Ideal) (⊥ : EReal) mx acc (ix r 0) = ((Real.log S : ℝ) : EReal) := by
  have hlog : ∀ l, logs (F := Ideal) (⊥ : EReal) acc (ix r l) = lg (v l) := by
    intro l
    show Idealize.ShloMosaic.Ideal.log (max (acc (ix r l) : EReal) ⊥) = _
    rw [ha, max_bot_right]; rfl
  have hp : peak (F := Ideal) (⊥ : EReal) acc (ix r 0) = (Finset.univ : Finset (Fin 256)).fold max ⊥ fun l => lg (v l) := by
    unfold peak
    rw [row_max]
    exact congrArg (fun f => (Finset.univ : Finset (Fin 256)).fold max ⊥ f) (funext hlog)
  obtain ⟨l0, hl0⟩ : ∃ l, 0 < v l := by
    by_contra hn
    push Not at hn
    have : ∑ l, v l ≤ 0 := Finset.sum_nonpos fun l _ => hn l
    rw [hs] at this
    exact absurd (mul_pos (Real.exp_pos (-M)) hS) (not_lt.mpr this)
  have htop : (Finset.univ : Finset (Fin 256)).fold max ⊥ (fun l => lg (v l)) ≠ ⊤ := fold_max_ne_top _ _ fun l _ => lg_ne_top _
  have hbot : (Finset.univ : Finset (Fin 256)).fold max ⊥ (fun l => lg (v l)) ≠ ⊥ := fun h => by
    have := le_fold_max Finset.univ (fun l => lg (v l)) l0 (Finset.mem_univ _)
    rw [h, lg_pos hl0] at this
    exact EReal.coe_ne_bot _ (le_bot_iff.mp this)
  obtain ⟨p, hpr⟩ : ∃ p : ℝ, (Finset.univ : Finset (Fin 256)).fold max ⊥ (fun l => lg (v l)) = (p : EReal) :=
    ⟨_, (EReal.coe_toReal htop hbot).symm⟩
  rw [hpr] at hp
  have hsum : shapeCast (W 1) (multiReduction .add [1] Rows
      (exp (subf (logs (F := Ideal) (⊥ : EReal) acc) (broadcastTo T (peak (F := Ideal) (⊥ : EReal) acc) spreads_rows))) 0x00000000#32 reduces_rows
        (.inl rfl) rfl) casts_rows (ix r 0) = ∑ l : Fin 256, Idealize.ShloMosaic.Ideal.exp (lg (v l) - (p : EReal)) := by
    rw [row_sum]
    refine Finset.sum_congr rfl fun l _ => ?_
    show Idealize.ShloMosaic.Ideal.exp ((logs (F := Ideal) (⊥ : EReal) acc (ix r l) : EReal)
      - (broadcastTo T (peak (F := Ideal) (⊥ : EReal) acc) spreads_rows (ix r l) : EReal)) = _
    rw [spread_apply, hlog, hp]
  have key : rowLog (F := Ideal) (⊥ : EReal) mx acc (ix r 0)
      = ((mx (ix r 0) : EReal) + (peak (F := Ideal) (⊥ : EReal) acc (ix r 0) : EReal))
        + Idealize.ShloMosaic.Ideal.log (∑ l : Fin 256, Idealize.ShloMosaic.Ideal.exp (lg (v l) - (p : EReal))) := by
    rw [← hsum]; rfl
  rw [key, hmx, hp, add_assoc, add_comm (p : EReal), lse Finset.univ v (fun l _ => hv l) p, hs,
    lg_pos (mul_pos (Real.exp_pos _) hS), Real.log_mul (Real.exp_pos _).ne' hS.ne', Real.log_exp, ← EReal.coe_add]
  congr 1; ring

/-- A half's row gives the logarithm of the sum over the entry's alignments. -/
theorem half_log {X : Fin 8 → ℕ → ℕ → ℝ} {σ : Fin 8 → ℕ → Fin 4} {mx : Col Ideal} {s : St Ideal} {vc : IVec T 32} (H : Half X σ mx s vc 512)
    (r : Fin 8) : rowLog (F := Ideal) (⊥ : EReal) mx s.acc (ix r 0) = ((Real.log (whole (X r)) : ℝ) : EReal) := by
  obtain ⟨⟨M, hM, Hs⟩, -⟩ := H
  refine rowLog_apply mx s.acc r (M r) (fun l => Real.exp (-M r) * SwSpec.acc (X r) 512 (l.val : ℤ)) (whole (X r))
    (fun l => mul_nonneg (Real.exp_pos _).le (acc_nonneg _ _ _)) ?_ (whole_pos _) (hM r) fun l => Hs.acc r l
  rw [← Finset.mul_sum, sum_acc]

/-- Row `r` of a column that has a leading axis too. -/
def ixc (r : Fin 8) : Col3.Idx := fun a => match a with
  | 0 => (0 : Fin 1)
  | 1 => r
  | 2 => (0 : Fin 1)

/-- The one place of the closing sum. -/
def one0 : One.Idx := fun a => match a with
  | 0 => (0 : Fin 1)

/-- Such a column's indices are the rows. -/
def colEquiv : Fin 8 ≃ Col3.Idx where
  toFun := ixc
  invFun i := i 1
  left_inv _ := rfl
  right_inv i := by
    funext a
    fin_cases a
    · exact (Fin.eq_zero (i 0 : Fin 1)).symm
    · rfl
    · exact (Fin.eq_zero (i 2 : Fin 1)).symm

theorem rowsSum_apply (c : Col Ideal) : rowsSum (F := Ideal) (shapeCast Col3 c casts_col) = ∑ r : Fin 8, (c (ix r 0) : EReal) := by
  have h1 : rowsSum (F := Ideal) (shapeCast Col3 c casts_col)
      = multiReduction .add [1, 2] One (shapeCast Col3 c casts_col) 0x00000000#32 reduces_col (.inl rfl) rfl one0 := by
    unfold rowsSum extractAt
    exact shapeCast_apply _ _ _ _ (by rw [Shape.rowMajor_val_one, Shape.rowMajor_val_three]; rfl)
  rw [h1]
  refine (Idealize.ShloMosaic.Ideal.multiReduction_add_total (s := Col3) (t := One) _ 0x00000000#32 reduces_col (fun b => by fin_cases b; rfl) (.inl rfl) rfl _).trans ?_
  refine (Fintype.sum_equiv colEquiv _ _ fun r => ?_).symm
  symm
  exact shapeCast_apply _ _ _ _ (by rw [Shape.rowMajor_val_two, Shape.rowMajor_val_three]; show r.val * 1 + 0 = (0 * 8 + r.val) * 1 + 0; omega)

theorem sixteenth_word : (Scalar.ofBits .f32 0x3D800000#32 : Ideal .f32) = ((1 / 16 : ℝ) : EReal) := by
  show Idealize.ShloMosaic.Ideal.ofBits .f32 0x3D800000#32 = _
  simp [Idealize.ShloMosaic.Ideal.ofBits, Idealize.ShloMosaic.Ideal.ieee, -EReal.coe_mul]; norm_num

/-- A sum over the batch is the sums over the two halves. -/
theorem sum_halves (f : Fin 16 → ℝ) :
    ∑ b : Fin 16, f b = ∑ r : Fin 8, f (entry 0 (by omega) r) + ∑ r : Fin 8, f (entry 8 (by omega) r) := by
  rw [Fin.sum_univ_add (a := 8) (b := 8)]
  refine congrArg₂ (· + ·) (Finset.sum_congr rfl fun r _ => congrArg f (Fin.ext ?_)) (Finset.sum_congr rfl fun r _ => congrArg f (Fin.ext ?_))
  · show r.val = 0 + r.val
    omega
  · rfl

variable (x : FVec Ideal Scores .f32) (t : IVec Sheet 32) (P : Fin 16 → ℕ → Fin 4 → ℝ) (τ : Fin 16 → ℕ → Fin 4)

/-- The kernel's result: minus the mean of the logarithms, where its floor is minus infinity. -/
theorem total_eq (R : Reads x t P τ) (j : One2.Idx) :
    total (F := Ideal) (⊥ : EReal) x t j = ((-(∑ b : Fin 16, Real.log (whole (pairs P τ b))) / 16 : ℝ) : EReal) := by
  obtain ⟨mx, s, vc, mx', s', vc', e, h, h'⟩ := trips_halves x t P τ R 16 le_rfl
  have e1 : rowsSum (F := Ideal) (part (F := Ideal) (⊥ : EReal) (trips x t 16))
      = ((∑ r : Fin 8, Real.log (whole (pairs P τ (entry 0 (by omega) r))) : ℝ) : EReal) := by
    rw [e]
    refine (rowsSum_apply (rowLog (F := Ideal) (⊥ : EReal) mx s.acc)).trans ?_
    rw [coe_sum]
    exact Finset.sum_congr rfl fun r _ => half_log h r
  have e2 : rowsSum (F := Ideal) (part' (F := Ideal) (⊥ : EReal) (trips x t 16))
      = ((∑ r : Fin 8, Real.log (whole (pairs P τ (entry 8 (by omega) r))) : ℝ) : EReal) := by
    rw [e]
    refine (rowsSum_apply (rowLog (F := Ideal) (⊥ : EReal) mx' s'.acc)).trans ?_
    rw [coe_sum]
    exact Finset.sum_congr rfl fun r _ => half_log h' r
  show ((Scalar.ofBits (F := Ideal) .f32 0x00000000#32 : EReal) - ((rowsSum (F := Ideal) (part (F := Ideal) (⊥ : EReal) (trips x t 16)) : EReal)
    + (rowsSum (F := Ideal) (part' (F := Ideal) (⊥ : EReal) (trips x t 16)) : EReal))) * (Scalar.ofBits (F := Ideal) .f32 0x3D800000#32 : EReal) = _
  rw [e1, e2, zero_word, sixteenth_word, zero_sub, ← EReal.coe_add, ← EReal.coe_neg, ← EReal.coe_mul]
  rw [sum_halves fun b => Real.log (whole (pairs P τ b))]
  congr 1; ring

end SwModel

end
-- ==== Proof.KernelValue.lean ====
/- The value the kernel's program leaves: what it hands the kernel, what the kernel's store fills, and the number they come to. -/
module

public import proofs.«01_k».proof.Proof.RunKernelIdeal
public import proofs.«01_k».proof.Proof.Final
public import Idealize.ShloMosaic.Lib.Pipeline.ValueKit
public import Idealize.ShloMosaic.Lib.StableHlo.RunRead

@[expose] public section

noncomputable section

namespace Cert.Proof.KernelIdeal

open Cert.KernelIdeal Cert.KernelIdeal.Gen SwModel
open Idealize.ShloMosaic Idealize.ShloMosaic.TcCoe Idealize.ShloMosaic.Tactic Idealize.ShloMosaic.StableHlo Idealize.SL.Sem

section Any

variable {F : FTy → Type} [FloatOps F] [Named F]
variable (m : (ℓ : Loc nD τ sig) → Buf (Elt F) ℓ) (ρ : Dev nD → PrngReg)

/-- The scores' block is the whole array of scores. -/
theorem block0 (c : Dev nD) (t : Fin cfg0.N) : (iblk m c 0 t : Vec F S4x16x256 .f32) = V m c main_call0_v0 := by
  funext i
  blk_ext [iblk] <;> simp [show win0_0.index t = fun _ => 0 from rfl]

/-- The letters' block is the whole array of letters. -/
theorem block1 (c : Dev nD) (t : Fin cfg0.N) : (iblk m c 1 t : Vec F S16x256 .i32) = V m c main_call0_v4 := by
  funext i
  blk_ext [iblk] <;> simp [show win0_1.index t = fun _ => 0 from rfl]

/-- The scores, letters first. -/
def turned (x : FVec F S16x256x4 .f32) : FVec F S4x16x256 .f32 :=
  transpose S4x16x256 [2, 0, 1] x transposes_S16x256x4_S4x16x256_2_0_1

/-- The letters, all but the first in reverse order. -/
def laid (t : IVec S16x256 32) : IVec S16x256 32 :=
  concatenate S16x256 1 [⟨S16x1, extractStridedSlice S16x1 ![0, 0] t slices_S16x256_S16x1_0_0⟩,
    ⟨S16x255, Host.reverse [1] (extractStridedSlice S16x255 ![0, 1] t slices_S16x256_S16x255_0_1)⟩] concatenates_S16x1_S16x255_S16x256_d1

theorem scores_in (c : Dev nD) : V m c main_call0_v0 = turned (m ((c.tc : Thread nD τ).loc main_arg0)) := by
  show after hostOps0 (fun b => m (c, b)) (Proc.devRef .tc main_call0_v0) = _
  after_reads_simp
  rfl

theorem letters_in (c : Dev nD) : V m c main_call0_v4 = laid (m ((c.tc : Thread nD τ).loc main_arg1)) := by
  show after hostOps0 (fun b => m (c, b)) (Proc.devRef .tc main_call0_v4) = _
  after_reads_simp
  rfl

/-- The kernel's closing value, from the program's arguments. -/
def final (c : Dev nD) : FVec F S1x1 .f32 :=
  result (turned (m ((c.tc : Thread nD τ).loc main_arg0))) (laid (m ((c.tc : Thread nD τ).loc main_arg1)))

theorem arr_eq (c : Dev nD) : (dats m 0 c).arrAt 2 cfg0.N = final m c := by
  refine (dats m 0 c).arrAt_eq_of_covers 2 _ (by decide +kernel) fun t hf y => ?_
  blk_simp
  rw [after2, block0, block1, scores_in, letters_in]
  frame_out
  unfold final
  congr 1
  blk_ext <;> rfl

/-- What the result's array holds after the last operation. -/
theorem last_eq (c : Dev nD) : Pipeline.afterTail₀ cfgs (dats m) 0 (V0 m) [hostOps1] c main_v0
    = shapeCast S_ (final m c) shapeCasts_S1x1_S_ := by
  unfold Pipeline.afterTail₀
  simp only [List.flatten_cons, List.flatten_nil, List.append_nil]
  after_reads_simp
  refine congrArg (fun y : FVec F S1x1 .f32 => shapeCast S_ y shapeCasts_S1x1_S_) ?_
  exact (Pipeline.withArrays_arr spec0 (by decide) c (V0 m c) (fun w => (dats m 0 c).arrAt w cfg0.N) 2).trans (arr_eq m c)

/-- The run, with the result's value. -/
theorem outcome : θ_run defs (onTc (τ := τ) (main (F := F))) ⟨m, fun _ => 0, ρ⟩ (fun r => ∀ c : Dev nD,
      r.2.mem ((c.tc : Thread nD τ).loc main_v0) = shapeCast S_ (final m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ
  · exact last_eq m c
  · exact W_main_arg0 m (dats m) c
  · exact W_main_arg1 m (dats m) c

end Any

/-- The kernel reads the scores and the letters of the program's arguments. -/
theorem reads {x : FVec Ideal S16x256x4 .f32} {t : IVec S16x256 32} {P : Fin 16 → ℕ → Fin 4 → ℝ} {σ : Fin 16 → ℕ → Fin 4}
    (hx : ∀ b (s : Fin 256) k, x (ValueIdx.ix3 b s k) = ((P b s.val k : ℝ) : EReal))
    (ht : ∀ b (l : Fin 256), t (ValueIdx.ix2 b l) = BitVec.ofNat 32 (σ b l.val).val) :
    Reads (shapeCast S4x16x256 (turned x) casts_scores) (shapeCast S16x256 (laid t) casts_sheet) P σ where
  score p b l := by
    rw [shapeCast_self]
    unfold turned
    refine (transpose_apply _ x _ _ (ValueIdx.ix3 b l p) fun a => ?_).trans (hx b l p)
    match a with
    | ⟨0, _⟩ => rfl
    | ⟨1, _⟩ => rfl
    | ⟨2, _⟩ => rfl
  letter b l := by
    rw [shapeCast_self]
    unfold laid
    by_cases h : l.val = 0
    · have e : (256 - l.val) % 256 = 0 := by omega
      rw [e]
      refine (concatenate_pair_apply_left (s₁ := S16x1) (s₂ := S16x255) 1 _ _ _ (ixs b l) rfl (ValueIdx.ix2 b (0 : Fin 1)) fun a => ?_).trans ?_
      · match a with
        | ⟨0, _⟩ => rfl
        | ⟨1, _⟩ => exact h.symm
      refine (extractStridedSlice_apply _ t _ _ (ValueIdx.ix2 b 0) fun a => ?_).trans (ht b 0)
      match a with
      | ⟨0, _⟩ => exact (Nat.zero_add _).symm
      | ⟨1, _⟩ => rfl
    · have hl := l.isLt
      have e : (256 - l.val) % 256 = 256 - l.val := by omega
      rw [e]
      refine (concatenate_pair_apply_right (s₁ := S16x1) (s₂ := S16x255) 1 _ _ _ (ixs b l) rfl rfl (ValueIdx.ix2 b (⟨l.val - 1, by omega⟩ : Fin 255)) (fun a ha => ?_) ?_).trans ?_
      · match a with
        | ⟨0, _⟩ => rfl
        | ⟨1, _⟩ => exact absurd rfl ha
      · show l.val - 1 + 1 = l.val
        omega
      refine (extractStridedSlice_apply _ t _ _ (ValueIdx.ix2 b ⟨256 - l.val, by omega⟩) fun a => ?_).trans (ht b ⟨256 - l.val, by omega⟩)
      match a with
      | ⟨0, _⟩ => exact (Nat.zero_add _).symm
      | ⟨1, _⟩ =>
        show 256 - l.val = 1 + (255 - (l.val - 1 + 1))
        omega

theorem floor_eq : (floor : Ideal .f32) = (⊥ : EReal) := rfl

/-- The kernel's value. -/
theorem final_apply (m : (ℓ : Loc nD τ sig) → Buf (Elt Ideal) ℓ) (c : Dev nD) {P : Fin 16 → ℕ → Fin 4 → ℝ} {σ : Fin 16 → ℕ → Fin 4}
    (hx : ∀ b (s : Fin 256) k, (m ((c.tc : Thread nD τ).loc main_arg0) : FVec Ideal S16x256x4 .f32) (ValueIdx.ix3 b s k) = ((P b s.val k : ℝ) : EReal))
    (ht : ∀ b (l : Fin 256), (m ((c.tc : Thread nD τ).loc main_arg1) : IVec S16x256 32) (ValueIdx.ix2 b l) = BitVec.ofNat 32 (σ b l.val).val)
    (j : S_.Idx) : (shapeCast S_ (final m c) shapeCasts_S1x1_S_ : FVec Ideal S_ .f32) j
      = ((-(∑ b : Fin 16, Real.log (SwSpec.whole (pairs P σ b))) / 16 : ℝ) : EReal) := by
  have h : ∀ i : S1x1.Idx, (final m c i : EReal) = ((-(∑ b : Fin 16, Real.log (SwSpec.whole (pairs P σ b))) / 16 : ℝ) : EReal) :=
    fun i => total_eq _ _ _ _ (reads hx ht) i
  unfold shapeCast
  exact h _

end Cert.Proof.KernelIdeal

end
-- ==== Proof.RefLse.lean ====
/- The reference's logarithm of a sum of exponentials over the extended reals, along the last axis of an array: where the
   entries are logarithms of nonnegative reals, the result is the logarithm of the sum of these reals. -/
module

public import Idealize.ShloMosaic.Lib.ValueIdxCore
public import Idealize.ShloMosaic.Lib.Pipeline.Value
public import Idealize.ShloMosaic.Lib.IdealHost
public import proofs.«01_k».proof.Proof.Spec
public import proofs.«01_k».proof.Proof.Gen.ReferenceIdeal

@[expose] public section

noncomputable section

namespace SwRef

open Idealize.ShloMosaic Idealize.ShloMosaic.ValueIdx SwSpec Cert.ReferenceIdeal Cert.ReferenceIdeal.Gen

theorem low_word : (FloatOps.ofBits .f32 0xFF800000#32 : Ideal .f32) = (⊥ : EReal) := by
  show Idealize.ShloMosaic.Ideal.ofBits .f32 0xFF800000#32 = _
  simp [Idealize.ShloMosaic.Ideal.ofBits, Idealize.ShloMosaic.Ideal.ieee]

theorem nil_word : (FloatOps.ofBits .f32 0x00000000#32 : Ideal .f32) = (0 : EReal) := Idealize.ShloMosaic.Ideal.ofBits_zero_f32

/-- The base taken off before the exponentials. -/
def off (top : EReal) : EReal := if top = ⊥ then 0 else top

theorem off_real {top : EReal} (h : top ≠ ⊤) : ∃ x : ℝ, off top = (x : EReal) := by
  unfold off
  split_ifs with hb
  · exact ⟨0, rfl⟩
  · exact ⟨top.toReal, (EReal.coe_toReal h hb).symm⟩

theorem lse_off {ι : Type} (s : Finset ι) (f : ι → EReal) (v : ι → ℝ) (hv : ∀ i ∈ s, 0 ≤ v i) (hf : ∀ i ∈ s, f i = lg (v i))
    {top : EReal} (h : top ≠ ⊤) :
    Idealize.ShloMosaic.Ideal.log (∑ i ∈ s, Idealize.ShloMosaic.Ideal.exp (f i - off top)) + off top = lg (∑ i ∈ s, v i) := by
  obtain ⟨x, hx⟩ := off_real h
  rw [hx, ← lse s v hv x, Finset.sum_congr rfl fun i hi => by rw [hf i hi]]

/-- Choosing zero where the largest entry is minus infinity. -/
theorem off_select {s : Shape} (x lo z : FVec Ideal s .f32) (i : s.Idx) (hl : lo i = (⊥ : EReal)) (hz : z i = (0 : EReal)) :
    select (cmpf .oeq x lo) z x i = off (x i) := by
  show (if (Idealize.ShloMosaic.Ideal.cmp .oeq (x i) (lo i)) = 1 then z i else x i) = _
  rw [hl, hz]
  unfold off Idealize.ShloMosaic.Ideal.cmp
  by_cases h : (x i : EReal) = ⊥ <;> simp [h]

abbrev Row (k : ℕ) : Shape := ⟨3, ![16, 255, k]⟩

variable {k : ℕ} (hr : (Row k).ReducesTo [2] S16x255) (hb : S16x255x1.BroadcastsInDim (Row k) ![0, 1, 2])

/-- The largest entries along the last axis. -/
def tops (x : FVec Ideal (Row k) .f32) : FVec Ideal S16x255x1 .f32 :=
  broadcastInDim S16x255x1 ![0, 1] bcast_S16x255_S16x255x1_0_1
    (Host.reduce FloatOps.maximumf x (constant S_ .f32 0xFF800000#32) hr h_S_ : FVec Ideal S16x255 .f32)

/-- The bases. -/
def bases (x : FVec Ideal (Row k) .f32) : FVec Ideal S16x255x1 .f32 :=
  select (cmpf .oeq (tops hr x) (broadcastInDim S16x255x1 ![] bcast_S_S16x255x1 (constant S_ .f32 0xFF800000#32)))
    (broadcastInDim S16x255x1 ![] bcast_S_S16x255x1 (constant S_ .f32 0x00000000#32)) (tops hr x)

/-- The exponentials of the entries less their base. -/
def exps (x : FVec Ideal (Row k) .f32) : FVec Ideal (Row k) .f32 :=
  Host.exp (subf x (broadcastInDim (Row k) ![0, 1, 2] hb (bases hr x)))

/-- The logarithms of the sums of exponentials along the last axis. -/
def lses (x : FVec Ideal (Row k) .f32) : FVec Ideal S16x255x1 .f32 :=
  addf (Host.log (broadcastInDim S16x255x1 ![0, 1] bcast_S16x255_S16x255x1_0_1
    (Host.reduceAdd (exps hr hb x) (constant S_ .f32 0x00000000#32)
      hr h_S_ : FVec Ideal S16x255 .f32))) (bases hr x)

theorem spread1 {α : Type} (y : S16x255.Idx → α) (b : Fin 16) (m : Fin 255) :
    broadcastInDim S16x255x1 ![0, 1] bcast_S16x255_S16x255x1_0_1 y (ix3 b m 0) = y (ix2 b m) :=
  broadcastInDim_apply _ _ _ _ _ (by intro a; fin_cases a <;> rfl)

theorem spread_last {α : Type} (y : S16x255x1.Idx → α) (b : Fin 16) (m : Fin 255) (c : Fin k) :
    broadcastInDim (Row k) ![0, 1, 2] hb y (ix3 b m c) = y (ix3 b m 0) :=
  broadcastInDim_apply _ _ _ _ _ (by intro a; fin_cases a <;> rfl)

variable (hR : (Row k).Reduces [2] S16x255)

include hR in
theorem lift_last (b : Fin 16) (m : Fin 255) (c : Fin ((Row k).size 2)) : hR.lift (ix2 b m) c = (ix3 b m (c : Fin k) : (Row k).Idx) := by
  funext a
  match a with
  | ⟨0, _⟩ => rfl
  | ⟨1, _⟩ => rfl
  | ⟨2, _⟩ => rfl

include hR in
theorem tops_apply (x : FVec Ideal (Row k) .f32) (b : Fin 16) (m : Fin 255) :
    tops hr x (ix3 b m 0) = (Finset.univ : Finset (Fin k)).fold max ⊥ (fun c => (x (ix3 b m c) : EReal)) := by
  unfold tops
  rw [spread1]
  refine (Host.reduce_eq_fold_single FloatOps.maximumf x _ hr hR h_S_ (ix2 b m)).trans ?_
  have e : (constant S_ .f32 0xFF800000#32 : FVec Ideal S_ .f32) (Shape.Idx.first h_S_) = (⊥ : EReal) := low_word
  rw [e]
  exact congrArg (fun f => (Finset.univ : Finset (Fin k)).fold max (⊥ : EReal) f) (funext fun c => congrArg x (lift_last hR b m c))

include hR in
theorem tops_ne (x : FVec Ideal (Row k) .f32) (b : Fin 16) (m : Fin 255) (v : Fin k → ℝ) (hx : ∀ c, x (ix3 b m c) = lg (v c)) :
    (tops hr x (ix3 b m 0) : EReal) ≠ ⊤ := by
  rw [tops_apply hr hR]
  exact fold_max_ne_top _ _ fun c _ => by rw [hx]; exact lg_ne_top _

theorem bases_apply (x : FVec Ideal (Row k) .f32) (b : Fin 16) (m : Fin 255) : bases hr x (ix3 b m 0) = off (tops hr x (ix3 b m 0)) :=
  off_select _ _ _ _ (by rw [broadcastInDim_scalar_apply]; exact low_word) (by rw [broadcastInDim_scalar_apply]; exact nil_word)

include hR in
theorem sums_apply (x : FVec Ideal (Row k) .f32) (b : Fin 16) (m : Fin 255) :
    (Host.reduceAdd x (constant S_ .f32 0x00000000#32) hr h_S_ : FVec Ideal S16x255 .f32) (ix2 b m) = ∑ c : Fin k, (x (ix3 b m c) : EReal) := by
  refine (Idealize.ShloMosaic.Ideal.hostReduceAdd_single hr hR x _ (ix2 b m)).trans ?_
  have e : (constant S_ .f32 0x00000000#32 : FVec Ideal S_ .f32) (Shape.Idx.first h_S_) = (0 : EReal) := nil_word
  rw [e, zero_add]
  exact Finset.sum_congr rfl fun c _ => congrArg x (lift_last hR b m c)

theorem exps_apply (x : FVec Ideal (Row k) .f32) (b : Fin 16) (m : Fin 255) (c : Fin k) :
    exps hr hb x (ix3 b m c) = Idealize.ShloMosaic.Ideal.exp (x (ix3 b m c) - bases hr x (ix3 b m 0)) := by
  rw [← spread_last hb (bases hr x) b m c]
  rfl

theorem log_add (y : FVec Ideal S16x255 .f32) (w : FVec Ideal S16x255x1 .f32) (b : Fin 16) (m : Fin 255) :
    (addf (Host.log (broadcastInDim S16x255x1 ![0, 1] bcast_S16x255_S16x255x1_0_1 y)) w : FVec Ideal S16x255x1 .f32) (ix3 b m 0)
      = Idealize.ShloMosaic.Ideal.log (y (ix2 b m)) + w (ix3 b m 0) := by
  rw [← spread1 y b m]
  rfl

include hR in
theorem lses_apply (x : FVec Ideal (Row k) .f32) (b : Fin 16) (m : Fin 255) (v : Fin k → ℝ)
    (hv : ∀ c, 0 ≤ v c) (hx : ∀ c, x (ix3 b m c) = lg (v c)) : lses hr hb x (ix3 b m 0) = lg (∑ c, v c) := by
  rw [← lse_off Finset.univ (fun c => (x (ix3 b m c) : EReal)) v (fun c _ => hv c) (fun c _ => hx c) (tops_ne hr hR x b m v hx),
    ← bases_apply hr]
  unfold lses
  rw [log_add, sums_apply hr hR]
  exact congrArg (fun u => Idealize.ShloMosaic.Ideal.log u + (bases hr x (ix3 b m 0) : EReal))
    (Finset.sum_congr rfl fun c _ => exps_apply hr hb x b m c)

end SwRef

end
-- ==== Proof.RefLands.lean ====
/- Where the reference's layout by antidiagonals puts the cells of a table: cell `(a, c)` of the table goes to antidiagonal
   `a + c`, to the position `(254 - a + c) / 2` on it. Positions that no cell goes to keep minus infinity. -/
module

public import Idealize.ShloMosaic.Lib.Routing.OpsPair
public import Idealize.ShloMosaic.Lib.Routing.OpsSet
public import proofs.«01_k».proof.Proof.RefLse
public import proofs.«01_k».proof.Proof.Gen.ReferenceIdeal.Step

@[expose] public section

noncomputable section

namespace SwRef

open Idealize.ShloMosaic Idealize.ShloMosaic.ValueIdx SwSpec Cert.ReferenceIdeal Cert.ReferenceIdeal.Gen Cert.ReferenceIdeal.Step

/-! The index words. -/

theorem half_word (n : ℕ) (h : n < 512) : IntOp.divsi .host (BitVec.ofNat 32 n) 2#32 = BitVec.ofNat 32 (n / 2) := by
  have key : ∀ k : Fin 512, IntOp.divsi .host (BitVec.ofNat 32 k.val) 2#32 = BitVec.ofNat 32 (k.val / 2) := by decide +kernel
  exact key ⟨n, h⟩

theorem odd_word (n : ℕ) (h : n < 512) : IntOp.remsi .host (BitVec.ofNat 32 n) 2#32 = BitVec.ofNat 32 (n % 2) := by
  have key : ∀ k : Fin 512, IntOp.remsi .host (BitVec.ofNat 32 k.val) 2#32 = BitVec.ofNat 32 (k.val % 2) := by decide +kernel
  exact key ⟨n, h⟩

theorem across_word (a c : ℕ) (ha : a < 255) (hc : c < 255) :
    BitVec.ofNat 32 c - (254#32 + 4294967295#32 * BitVec.ofNat 32 a) + 254#32 = BitVec.ofNat 32 (a + c) := by
  apply BitVec.eq_of_toNat_eq
  simp only [BitVec.toNat_add, BitVec.toNat_sub, BitVec.toNat_mul, BitVec.toNat_ofNat]
  omega

theorem along_word (a c : ℕ) (ha : a < 255) (hc : c < 255) :
    (254#32 + 4294967295#32 * BitVec.ofNat 32 a) + BitVec.ofNat 32 c = BitVec.ofNat 32 (254 - a + c) := by
  apply BitVec.eq_of_toNat_eq
  simp only [BitVec.toNat_add, BitVec.toNat_mul, BitVec.toNat_ofNat]
  omega

theorem small_word (n : ℕ) (h : n < 1024) : (BitVec.ofNat 32 n).toInt = n := by
  rw [BitVec.toInt_eq_toNat_of_lt] <;> rw [BitVec.toNat_ofNat] <;> norm_num <;> omega

/-- A small index is not counted from the end. -/
theorem keep_word (n : ℕ) (h : n < 1024) (o : BitVec 32) :
    Scalar.select (IntOp.cmpi .slt (BitVec.ofNat 32 n) 0#32) (BitVec.ofNat 32 n + o) (BitVec.ofNat 32 n) = BitVec.ofNat 32 n :=
  Routing.wrap_of_lt _ _ (by rw [BitVec.toNat_ofNat]; norm_num; omega)

theorem diag_word (a c : Fin 255) : K_main_v17 (F := Ideal) (ix2 a c) = BitVec.ofNat 32 (a.val + c.val) :=
  across_word a.val c.val a.isLt c.isLt

theorem spot_word (a c : Fin 255) : K_main_v22 (F := Ideal) (ix2 a c) = BitVec.ofNat 32 ((254 - a.val + c.val) / 2) := by
  have e : K_main_v20 (F := Ideal) (ix2 a c) = BitVec.ofNat 32 (254 - a.val + c.val) := along_word a.val c.val a.isLt c.isLt
  show IntOp.divsi .host (K_main_v20 (F := Ideal) (ix2 a c)) 2#32 = _
  rw [e, half_word _ (by omega)]

theorem diag_kept (a c : Fin 255) : K_main_v28 (F := Ideal) (ix2 a c) = BitVec.ofNat 32 (a.val + c.val) := by
  show Scalar.select (IntOp.cmpi .slt (K_main_v17 (F := Ideal) (ix2 a c)) 0#32) (K_main_v17 (F := Ideal) (ix2 a c) + 509#32)
    (K_main_v17 (F := Ideal) (ix2 a c)) = _
  rw [diag_word, keep_word _ (by omega)]

theorem spot_kept (a c : Fin 255) : K_main_v33 (F := Ideal) (ix2 a c) = BitVec.ofNat 32 ((254 - a.val + c.val) / 2) := by
  show Scalar.select (IntOp.cmpi .slt (K_main_v22 (F := Ideal) (ix2 a c)) 0#32) (K_main_v22 (F := Ideal) (ix2 a c) + 255#32)
    (K_main_v22 (F := Ideal) (ix2 a c)) = _
  rw [spot_word, keep_word _ (by omega)]

theorem words0 (a c : Fin 255) : K_main_v36 (F := Ideal) (ix3 a c 0) = BitVec.ofNat 32 (a.val + c.val) := by
  rw [← diag_kept]
  unfold K_main_v36
  refine (concatenate_pair_apply_left (t := S255x255x2) (s₁ := S255x255x1) (s₂ := S255x255x1) 2 _ _ _ (ix3 a c 0) rfl (ix3 a c 0) (by
    intro b; fin_cases b <;> rfl)).trans ?_
  exact broadcastInDim_apply _ _ _ _ _ (by intro b; fin_cases b <;> rfl)

theorem words1 (a c : Fin 255) : K_main_v36 (F := Ideal) (ix3 a c 1) = BitVec.ofNat 32 ((254 - a.val + c.val) / 2) := by
  rw [← spot_kept]
  unfold K_main_v36
  refine (concatenate_pair_apply_right (t := S255x255x2) (s₁ := S255x255x1) (s₂ := S255x255x1) 2 _ _ _ (ix3 a c 1) rfl rfl (ix3 a c 0) (by
    intro b hb; match b, hb with | ⟨0, _⟩, _ => rfl | ⟨1, _⟩, _ => rfl | ⟨2, _⟩, hb => exact absurd rfl hb) rfl).trans ?_
  exact broadcastInDim_apply _ _ _ _ _ (by intro b; fin_cases b <;> rfl)

/-! The cells' places. -/

abbrev place : ScatterDims S16x509x255 S255x255x2 S16x255x255 := scatter_S16x509x255_S255x255x2_S16x255x255_0_12_12_2

theorem lands (idx : IVec S255x255x2 32) (b : Fin 16) (a c : Fin 255) (b' : Fin 16) (d : Fin 509) (m : Fin 255) :
    place.resultIdx? (ix3 b a c) idx = some (ix3 b' d m)
      ↔ b = b' ∧ (idx (ix3 a c 0)).toInt = d.val ∧ (idx (ix3 a c 1)).toInt = m.val := by
  have h0 : place.start (ix3 b a c) idx 0 = 0 := rfl
  have w0 : place.window (ix3 b a c) 0 = b.val := rfl
  have w1 : place.window (ix3 b a c) 1 = 0 := rfl
  have w2 : place.window (ix3 b a c) 2 = 0 := rfl
  have h1 : place.start (ix3 b a c) idx 1 = (idx (ix3 a c 0)).toInt := by
    refine congrArg (fun i => (idx i).toInt) ?_
    funext q
    match q with
    | ⟨0, _⟩ => rfl
    | ⟨1, _⟩ => rfl
    | ⟨2, _⟩ => rfl
  have h2 : place.start (ix3 b a c) idx 2 = (idx (ix3 a c 1)).toInt := by
    refine congrArg (fun i => (idx i).toInt) ?_
    funext q
    match q with
    | ⟨0, _⟩ => rfl
    | ⟨1, _⟩ => rfl
    | ⟨2, _⟩ => rfl
  rw [Routing.resultIdx?_eq_some]
  constructor
  · intro h
    have e0 := h 0
    have e1 := h 1
    have e2 := h 2
    rw [h0, w0] at e0
    rw [h1, w1] at e1
    rw [h2, w2] at e2
    refine ⟨Fin.ext ?_, ?_, ?_⟩
    · have : (0 : ℤ) + (b.val : ℤ) = (b'.val : ℤ) := e0
      omega
    · have : (idx (ix3 a c 0)).toInt + ((0 : ℕ) : ℤ) = (d.val : ℤ) := e1
      omega
    · have : (idx (ix3 a c 1)).toInt + ((0 : ℕ) : ℤ) = (m.val : ℤ) := e2
      omega
  · rintro ⟨rfl, e1, e2⟩ q
    match q with
    | ⟨0, _⟩ =>
      show place.start (ix3 b a c) idx 0 + (place.window (ix3 b a c) 0 : ℤ) = (b.val : ℤ)
      rw [h0, w0]; omega
    | ⟨1, _⟩ =>
      show place.start (ix3 b a c) idx 1 + (place.window (ix3 b a c) 1 : ℤ) = (d.val : ℤ)
      rw [h1, w1, e1]; omega
    | ⟨2, _⟩ =>
      show place.start (ix3 b a c) idx 2 + (place.window (ix3 b a c) 2 : ℤ) = (m.val : ℤ)
      rw [h2, w2, e2]; omega

/-- The row of the table at position `m` of antidiagonal `d`. -/
def row (d : ℤ) (m : Fin 255) : ℤ := 127 + d / 2 - m.val

theorem lands_row (b : Fin 16) (a c : Fin 255) (b' : Fin 16) (d : Fin 509) (m : Fin 255) :
    place.resultIdx? (ix3 b a c) (K_main_v36 (F := Ideal)) = some (ix3 b' d m)
      ↔ b = b' ∧ (a.val : ℤ) = row d.val m ∧ (c.val : ℤ) = d.val - row d.val m := by
  rw [lands, words0, words1, small_word _ (by omega), small_word _ (by omega)]
  unfold row
  push_cast
  constructor
  · rintro ⟨h, h1, h2⟩
    exact ⟨h, by omega, by omega⟩
  · rintro ⟨h, h1, h2⟩
    exact ⟨h, by omega, by omega⟩

/-- A table of real scores laid out by antidiagonals. -/
theorem rotated (x : FVec Ideal S16x255x255 .f32) (z : FVec Ideal S16x509x255 .f32) (f : Fin 16 → ℕ → ℕ → ℝ)
    (hx : ∀ b a c, x (ix3 b a c) = ((f b a.val c.val : ℝ) : EReal)) (hz : ∀ i, z i = (⊥ : EReal)) (b : Fin 16) (d : Fin 509) (m : Fin 255) :
    (Host.scatter place (fun _ v => v) z (K_main_v36 (F := Ideal)) x (ix3 b d m) : EReal)
      = if Inside d.val (row d.val m) then ((f b (row d.val m).toNat (d.val - row d.val m).toNat : ℝ) : EReal) else ⊥ := by
  split_ifs with h
  · unfold Inside at h
    refine Routing.scatter_set_hit place z _ x _ _ (fun k hk => ?_)
      (ix3 b ⟨(row d.val m).toNat, by omega⟩ ⟨(d.val - row d.val m).toNat, by omega⟩) ?_
    · rw [eq_ix3 k] at hk ⊢
      obtain ⟨e, e1, e2⟩ := (lands_row (k 0) (k 1) (k 2) b d m).1 hk
      refine (hx (k 0) (k 1) (k 2)).trans ?_
      have e3 : (row d.val m).toNat = (k 1).val := by omega
      have e4 : ((d.val : ℤ) - row d.val m).toNat = (k 2).val := by omega
      rw [e3, e4, ← e]
    · rw [lands_row]
      exact ⟨rfl, by show (((row d.val m).toNat : ℕ) : ℤ) = _; omega, by show ((((d.val : ℤ) - row d.val m).toNat : ℕ) : ℤ) = _; omega⟩
  · refine (Routing.scatter_set_miss place z _ x _ fun k hk => h ?_).trans (hz _)
    rw [eq_ix3 k] at hk
    obtain ⟨e, e1, e2⟩ := (lands_row (k 0) (k 1) (k 2) b d m).1 hk
    have h1 : (k 1).val < 255 := (k 1).isLt
    have h2 : (k 2).val < 255 := (k 2).isLt
    unfold Inside
    omega

end SwRef

end
-- ==== Proof.RefMoves.lean ====
/- What the reference's moves of arrays do at one entry: the planes a trip takes and puts back, shifts by one position, the
   choice between two arrays, and joined arrays. -/
module

public import Idealize.ShloMosaic.Lib.KernelVsHost
public import Idealize.ShloMosaic.Lib.WordCmp
public import proofs.«01_k».proof.Proof.RefLands

@[expose] public section

noncomputable section

namespace SwRef

open Idealize.ShloMosaic Idealize.ShloMosaic.ValueIdx SwSpec Cert.ReferenceIdeal Cert.ReferenceIdeal.Gen

/-- A counter's word. -/
abbrev word (n : ℕ) : IVec S_ 32 := constantI S_ 32 (BitVec.ofNat 32 n)

theorem word_read (n : ℕ) (h : n < 1024) : ((word n) (Shape.Idx.first h_S_)).toInt = n := small_word n h

/-- Plane `w` of a stack of 509. -/
def plane (x : FVec Ideal S509x16x255 .f32) (w : IVec S_ 32) : FVec Ideal S16x255 .f32 :=
  shapeCast S16x255 (Host.dynamicSlice S1x16x255 x (fun k => (((![w, constantI S_ 32 0#32, constantI S_ 32 0#32] : Fin 3 → IVec S_ 32)) k
    (Shape.Idx.first h_S_)).toInt) sliceFits_S509x16x255_S1x16x255) shapeCasts_S1x16x255_S16x255

theorem plane_fits (d : ℕ) (h : d < 509) : S509x16x255.Slices ![d, 0, 0] S1x16x255 :=
  ⟨rfl, fun a => match a with
    | ⟨0, _⟩ => (by show d + 1 ≤ 509; omega)
    | ⟨1, _⟩ => (by show 0 + 16 ≤ 16; omega)
    | ⟨2, _⟩ => (by show 0 + 255 ≤ 255; omega)⟩

theorem plane_apply (x : FVec Ideal S509x16x255 .f32) (d : Fin 509) (b : Fin 16) (m : Fin 255) :
    plane x (word d.val) (ix2 b m) = x (ix3 d b m) := by
  unfold plane
  rw [shapeCast_apply _ _ (ix2 b m) (ix3 0 b m) (by rw [Shape.rowMajor_val_two, Shape.rowMajor_val_three]; simp)]
  rw [WordCmp.dynamicSlice_eq_extract S1x16x255 x _ _ ![d.val, 0, 0] (plane_fits d.val d.isLt) (fun a => match a with
    | ⟨0, _⟩ => word_read d.val (by omega)
    | ⟨1, _⟩ => rfl
    | ⟨2, _⟩ => rfl)]
  refine extractStridedSlice_apply _ _ _ _ _ fun a => ?_
  match a with
  | ⟨0, _⟩ => rfl
  | ⟨1, _⟩ => exact (Nat.zero_add _).symm
  | ⟨2, _⟩ => exact (Nat.zero_add _).symm

/-- Entry `w` of a list of 509 words. -/
def pick (x : IVec S509 32) (w : IVec S_ 32) : IVec S_ 32 :=
  shapeCast S_ (Host.dynamicSlice S1 x (fun k => (((![w] : Fin 1 → IVec S_ 32)) k (Shape.Idx.first h_S_)).toInt) sliceFits_S509_S1)
    shapeCasts_S1_S_

theorem pick_fits (d : ℕ) (h : d < 509) : S509.Slices ![d] S1 :=
  ⟨rfl, fun a => match a with
    | ⟨0, _⟩ => (by show d + 1 ≤ 509; omega)⟩

theorem pick_apply (x : IVec S509 32) (d : Fin 509) : pick x (word d.val) ix0 = x (ix1 d) := by
  unfold pick
  rw [shapeCast_apply _ _ ix0 (ix1 0) (by rw [Shape.rowMajor_val_one]; rfl)]
  rw [WordCmp.dynamicSlice_eq_extract S1 x _ _ ![d.val] (pick_fits d.val d.isLt) (fun a => match a with
    | ⟨0, _⟩ => word_read d.val (by omega))]
  refine extractStridedSlice_apply _ _ _ _ _ fun a => ?_
  match a with
  | ⟨0, _⟩ => rfl

/-- The two carried layers. -/
def layer0 (x : FVec Ideal S2x16x255x3 .f32) : FVec Ideal S16x255x3 .f32 :=
  shapeCast S16x255x3 (extractStridedSlice S1x16x255x3 ![0, 0, 0, 0] x slices_S2x16x255x3_S1x16x255x3_0_0_0_0) shapeCasts_S1x16x255x3_S16x255x3
def layer1 (x : FVec Ideal S2x16x255x3 .f32) : FVec Ideal S16x255x3 .f32 :=
  shapeCast S16x255x3 (extractStridedSlice S1x16x255x3 ![1, 0, 0, 0] x slices_S2x16x255x3_S1x16x255x3_1_0_0_0) shapeCasts_S1x16x255x3_S16x255x3

theorem layer0_apply (x : FVec Ideal S2x16x255x3 .f32) (b : Fin 16) (m : Fin 255) (c : Fin 3) : layer0 x (ix3 b m c) = x (ix4 0 b m c) := by
  unfold layer0
  rw [shapeCast_apply _ _ (ix3 b m c) (ix4 0 b m c) (by rw [Shape.rowMajor_val_three, Shape.rowMajor_val_four]; simp)]
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

theorem layer1_apply (x : FVec Ideal S2x16x255x3 .f32) (b : Fin 16) (m : Fin 255) (c : Fin 3) : layer1 x (ix3 b m c) = x (ix4 1 b m c) := by
  unfold layer1
  rw [shapeCast_apply _ _ (ix3 b m c) (ix4 0 b m c) (by rw [Shape.rowMajor_val_three, Shape.rowMajor_val_four]; simp)]
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- The layer with a fourth entry, a zero, at every position. -/
def padded (h : FVec Ideal S16x255x3 .f32) : FVec Ideal S16x255x4 .f32 :=
  pad S16x255x4 ![0, 0, 0] ![0, 0, 1] ![0, 0, 0] h (sitofp .f32 (constantI S_ 32 0#32) : FVec Ideal S_ .f32) pads_S16x255x3_S16x255x4_000_000_010 h_S_

theorem padded_old (h : FVec Ideal S16x255x3 .f32) (b : Fin 16) (m : Fin 255) (c : Fin 3) : padded h (ix3 b m c.castSucc) = h (ix3 b m c) := by
  refine pad_apply_of_inside _ _ _ _ _ _ _ _ _ fun a => ?_
  match a with
  | ⟨0, _⟩ => show b.val = 0 + b.val * 1; omega
  | ⟨1, _⟩ => show m.val = 0 + m.val * 1; omega
  | ⟨2, _⟩ => show c.val = 0 + c.val * 1; omega

theorem padded_new (h : FVec Ideal S16x255x3 .f32) (b : Fin 16) (m : Fin 255) : padded h (ix3 b m 3) = (0 : EReal) := by
  refine (pad_apply_of_not_inside _ _ _ _ _ _ _ _ (2 : Fin 3) ?_).trans ?_
  · rintro ⟨-, -, h3⟩
    have : (3 - 0) / 1 < 3 := h3
    omega
  · show ((((0#32 : BitVec 32).toInt : ℤ) : ℝ) : EReal) = 0
    simp

/-- A layer moved one position on, and one position back; minus infinity comes in. -/
def moved (h : FVec Ideal S16x255x3 .f32) : FVec Ideal S16x255x3 .f32 :=
  pad S16x255x3 ![0, 1, 0] ![0, 0, 0] ![0, 0, 0] (extractStridedSlice S16x254x3 ![0, 0, 0] h slices_S16x255x3_S16x254x3_0_0_0)
    (id (constant S_ .f32 0xFF800000#32) : FVec Ideal S_ .f32) pads_S16x254x3_S16x255x3_000_100_000 h_S_
def back (h : FVec Ideal S16x255x3 .f32) : FVec Ideal S16x255x3 .f32 :=
  pad S16x255x3 ![0, 0, 0] ![0, 1, 0] ![0, 0, 0] (extractStridedSlice S16x254x3 ![0, 1, 0] h slices_S16x255x3_S16x254x3_0_1_0)
    (id (constant S_ .f32 0xFF800000#32) : FVec Ideal S_ .f32) pads_S16x254x3_S16x255x3_000_010_000 h_S_

theorem moved_first (h : FVec Ideal S16x255x3 .f32) (b : Fin 16) (m : Fin 255) (hm : m.val = 0) (c : Fin 3) :
    moved h (ix3 b m c) = (⊥ : EReal) := by
  refine (pad_apply_of_not_inside _ _ _ _ _ _ _ _ (1 : Fin 3) ?_).trans low_word
  rintro ⟨h1, -, -⟩
  have : 1 ≤ m.val := h1
  omega

theorem moved_apply (h : FVec Ideal S16x255x3 .f32) (b : Fin 16) (m k : Fin 255) (hm : m.val = k.val + 1) (c : Fin 3) :
    moved h (ix3 b m c) = h (ix3 b k c) := by
  have hk : k.val < 254 := by omega
  refine (pad_apply_of_inside _ _ _ _ _ _ _ _ (ix3 b (⟨k.val, hk⟩ : Fin 254) c : S16x254x3.Idx) fun a => ?_).trans ?_
  · match a with
    | ⟨0, _⟩ => show b.val = 0 + b.val * 1; omega
    | ⟨1, _⟩ => show m.val = 1 + k.val * 1; omega
    | ⟨2, _⟩ => show c.val = 0 + c.val * 1; omega
  · refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm

theorem back_last (h : FVec Ideal S16x255x3 .f32) (b : Fin 16) (m : Fin 255) (hm : m.val = 254) (c : Fin 3) :
    back h (ix3 b m c) = (⊥ : EReal) := by
  refine (pad_apply_of_not_inside _ _ _ _ _ _ _ _ (1 : Fin 3) ?_).trans low_word
  rintro ⟨-, -, h3⟩
  have : (m.val - 0) / 1 < 254 := h3
  omega

theorem back_apply (h : FVec Ideal S16x255x3 .f32) (b : Fin 16) (m k : Fin 255) (hm : k.val = m.val + 1) (c : Fin 3) :
    back h (ix3 b m c) = h (ix3 b k c) := by
  have hk : m.val < 254 := by omega
  refine (pad_apply_of_inside _ _ _ _ _ _ _ _ (ix3 b (⟨m.val, hk⟩ : Fin 254) c : S16x254x3.Idx) fun a => ?_).trans ?_
  · match a with
    | ⟨0, _⟩ => show b.val = 0 + b.val * 1; omega
    | ⟨1, _⟩ => show m.val = 0 + m.val * 1; omega
    | ⟨2, _⟩ => show c.val = 0 + c.val * 1; omega
  · refine extractStridedSlice_apply _ _ _ _ _ fun a => ?_
    match a with
    | ⟨0, _⟩ => exact (Nat.zero_add _).symm
    | ⟨1, _⟩ => show k.val = 1 + m.val; omega
    | ⟨2, _⟩ => exact (Nat.zero_add _).symm

/-- One of two layers, by a flag. -/
def choose (w : IVec S_ 32) (x y : FVec Ideal S16x255x3 .f32) : FVec Ideal S16x255x3 .f32 :=
  select (broadcastInDim S16x255x3 ![] bcast_S_S16x255x3 (cmpi .eq w (constantI S_ 32 1#32))) x y

theorem choose_apply (w : IVec S_ 32) (x y : FVec Ideal S16x255x3 .f32) (i : S16x255x3.Idx) :
    choose w x y i = if w ix0 = 1#32 then x i else y i := by
  have e : (broadcastInDim S16x255x3 ![] bcast_S_S16x255x3 (cmpi .eq w (constantI S_ 32 1#32))) i = IntOp.cmpi .eq (w ix0) 1#32 :=
    broadcastInDim_scalar_apply _ _ _
  show (if _ = 1#1 then x i else y i) = _
  rw [e]
  by_cases h : w ix0 = 1#32
  · rw [if_pos h, if_pos (by simp [IntOp.cmpi, h])]
  · rw [if_neg h, if_neg (by show ¬BitVec.ofBool (w ix0 == 1#32) = 1#1; rw [beq_eq_false_iff_ne.2 h]; decide)]

/-- Three numbers, one for each kind of alignment, at every position. -/
def three (p q r : FVec Ideal S_ .f32) : FVec Ideal S16x255x3 .f32 :=
  broadcastInDim S16x255x3 ![0, 1, 2] bcast_S1x1x3_S16x255x3_0_1_2 (broadcastInDim S1x1x3 ![2] bcast_S3_S1x1x3_2
    ((concatenate S3 0 [⟨S1, ((broadcastInDim S1 ![] bcast_S_S1 p) : FVec Ideal S1 .f32)⟩, ⟨S1, ((broadcastInDim S1 ![] bcast_S_S1 q) : FVec Ideal S1 .f32)⟩,
      ⟨S1, ((broadcastInDim S1 ![] bcast_S_S1 r) : FVec Ideal S1 .f32)⟩] concatenates_S1_S1_S1_S3_d0 : FVec Ideal S3 .f32)))

theorem three_apply (p q r : FVec Ideal S_ .f32) (b : Fin 16) (m : Fin 255) (c : Fin 3) :
    three p q r (ix3 b m c) = ![p ix0, q ix0, r ix0] c := by
  unfold three
  rw [broadcastInDim_apply _ _ _ (ix3 b m c) (ix3 0 0 c : S1x1x3.Idx) (by intro a; fin_cases a <;> rfl)]
  rw [broadcastInDim_apply _ _ _ (ix3 0 0 c : S1x1x3.Idx) (ix1 c) (by intro a; fin_cases a; rfl)]
  have hs (u : FVec Ideal S_ .f32) : broadcastInDim S1 ![] bcast_S_S1 u (ix1 0) = u ix0 := broadcastInDim_scalar_apply _ _ _
  match c with
  | ⟨0, _⟩ =>
    exact (concatenate_apply_piece (t := S3) 0 _ _ _ 0 (by show 0 < 3; decide) S1 _ rfl rfl 0 rfl (ix1 0) (by
      intro b hb; match b, hb with | ⟨0, _⟩, hb => exact absurd rfl hb) rfl).trans (hs p)
  | ⟨1, _⟩ =>
    exact (concatenate_apply_piece (t := S3) 0 _ _ _ 1 (by show 1 < 3; decide) S1 _ rfl rfl 1 rfl (ix1 0) (by
      intro b hb; match b, hb with | ⟨0, _⟩, hb => exact absurd rfl hb) rfl).trans (hs q)
  | ⟨2, _⟩ =>
    exact (concatenate_apply_piece (t := S3) 0 _ _ _ 2 (by show 2 < 3; decide) S1 _ rfl rfl 2 rfl (ix1 0) (by
      intro b hb; match b, hb with | ⟨0, _⟩, hb => exact absurd rfl hb) rfl).trans (hs r)

/-- The three kinds joined. -/
def joined (x y z : FVec Ideal S16x255x1 .f32) : FVec Ideal S16x255x3 .f32 :=
  concatenate S16x255x3 2 [⟨S16x255x1, x⟩, ⟨S16x255x1, y⟩, ⟨S16x255x1, z⟩] concatenates_S16x255x1_S16x255x1_S16x255x1_S16x255x3_d2

theorem joined_apply (x y z : FVec Ideal S16x255x1 .f32) (b : Fin 16) (m : Fin 255) (c : Fin 3) :
    joined x y z (ix3 b m c) = ![x (ix3 b m 0), y (ix3 b m 0), z (ix3 b m 0)] c := by
  unfold joined
  match c with
  | ⟨0, _⟩ =>
    exact concatenate_apply_piece (t := S16x255x3) 2 _ _ _ 0 (by show 0 < 3; decide) S16x255x1 _ rfl rfl 0 rfl (ix3 b m 0) (by
      intro b hb; match b, hb with | ⟨0, _⟩, _ => rfl | ⟨1, _⟩, _ => rfl | ⟨2, _⟩, hb => exact absurd rfl hb) rfl
  | ⟨1, _⟩ =>
    exact concatenate_apply_piece (t := S16x255x3) 2 _ _ _ 1 (by show 1 < 3; decide) S16x255x1 _ rfl rfl 1 rfl (ix3 b m 0) (by
      intro b hb; match b, hb with | ⟨0, _⟩, _ => rfl | ⟨1, _⟩, _ => rfl | ⟨2, _⟩, hb => exact absurd rfl hb) rfl
  | ⟨2, _⟩ =>
    exact concatenate_apply_piece (t := S16x255x3) 2 _ _ _ 2 (by show 2 < 3; decide) S16x255x1 _ rfl rfl 2 rfl (ix3 b m 0) (by
      intro b hb; match b, hb with | ⟨0, _⟩, _ => rfl | ⟨1, _⟩, _ => rfl | ⟨2, _⟩, hb => exact absurd rfl hb) rfl

/-- The first two of three. -/
def two (x : FVec Ideal S16x255x3 .f32) : FVec Ideal S16x255x2 .f32 :=
  extractStridedSlice S16x255x2 ![0, 0, 0] x slices_S16x255x3_S16x255x2_0_0_0

theorem two_apply (x : FVec Ideal S16x255x3 .f32) (b : Fin 16) (m : Fin 255) (c : Fin 2) : two x (ix3 b m c) = x (ix3 b m c.castSucc) := by
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

/-- A layer as a stack of one. -/
def single (h : FVec Ideal S16x255x3 .f32) : FVec Ideal S1x16x255x3 .f32 :=
  broadcastInDim S1x16x255x3 ![1, 2, 3] bcast_S16x255x3_S1x16x255x3_1_2_3 h

theorem single_apply (h : FVec Ideal S16x255x3 .f32) (b : Fin 16) (m : Fin 255) (c : Fin 3) : single h (ix4 0 b m c) = h (ix3 b m c) :=
  broadcastInDim_apply _ _ _ _ _ (by intro a; fin_cases a <;> rfl)

/-- Two layers stacked. -/
def stacked (x y : FVec Ideal S16x255x3 .f32) : FVec Ideal S2x16x255x3 .f32 :=
  concatenate S2x16x255x3 0 [⟨S1x16x255x3, single x⟩, ⟨S1x16x255x3, single y⟩] concatenates_S1x16x255x3_S1x16x255x3_S2x16x255x3_d0

theorem stacked_0 (x y : FVec Ideal S16x255x3 .f32) (b : Fin 16) (m : Fin 255) (c : Fin 3) : stacked x y (ix4 0 b m c) = x (ix3 b m c) := by
  unfold stacked
  exact (concatenate_pair_apply_left (t := S2x16x255x3) (s₁ := S1x16x255x3) (s₂ := S1x16x255x3) 0 _ _ _ (ix4 0 b m c) rfl (ix4 0 b m c) (by
    intro b; fin_cases b <;> rfl)).trans (single_apply x b m c)

theorem stacked_1 (x y : FVec Ideal S16x255x3 .f32) (b : Fin 16) (m : Fin 255) (c : Fin 3) : stacked x y (ix4 1 b m c) = y (ix3 b m c) := by
  unfold stacked
  exact (concatenate_pair_apply_right (t := S2x16x255x3) (s₁ := S1x16x255x3) (s₂ := S1x16x255x3) 0 _ _ _ (ix4 1 b m c) rfl rfl (ix4 0 b m c) (by
    intro b hb; match b, hb with | ⟨1, _⟩, _ => rfl | ⟨2, _⟩, _ => rfl | ⟨3, _⟩, _ => rfl | ⟨0, _⟩, hb => exact absurd rfl hb) rfl).trans
    (single_apply y b m c)

/-- A layer put at plane `w` of the ends. -/
def put (x : FVec Ideal S509x16x255x3 .f32) (h : FVec Ideal S16x255x3 .f32) (w : IVec S_ 32) : FVec Ideal S509x16x255x3 .f32 :=
  Host.dynamicUpdateSlice x (single h) (fun k => (((![w, constantI S_ 32 0#32, constantI S_ 32 0#32, constantI S_ 32 0#32] : Fin 4 → IVec S_ 32)) k
    (Shape.Idx.first h_S_)).toInt) updateFits_S509x16x255x3_S1x16x255x3

theorem put_fits (d : ℕ) (h : d < 509) : S509x16x255x3.Slices ![d, 0, 0, 0] S1x16x255x3 :=
  ⟨rfl, fun a => match a with
    | ⟨0, _⟩ => (by show d + 1 ≤ 509; omega)
    | ⟨1, _⟩ => (by show 0 + 16 ≤ 16; omega)
    | ⟨2, _⟩ => (by show 0 + 255 ≤ 255; omega)
    | ⟨3, _⟩ => (by show 0 + 3 ≤ 3; omega)⟩

theorem put_eq (x : FVec Ideal S509x16x255x3 .f32) (h : FVec Ideal S16x255x3 .f32) (d : Fin 509) :
    put x h (word d.val) = updateSlice x (single h) ![d.val, 0, 0, 0] (put_fits d.val d.isLt) :=
  WordCmp.dynamicUpdateSlice_eq_update x _ _ _ ![d.val, 0, 0, 0] (put_fits d.val d.isLt) (fun a => match a with
    | ⟨0, _⟩ => word_read d.val (by omega)
    | ⟨1, _⟩ => rfl
    | ⟨2, _⟩ => rfl
    | ⟨3, _⟩ => rfl)

theorem put_here (x : FVec Ideal S509x16x255x3 .f32) (h : FVec Ideal S16x255x3 .f32) (d : Fin 509) (b : Fin 16) (m : Fin 255) (c : Fin 3) :
    put x h (word d.val) (ix4 d b m c) = h (ix3 b m c) := by
  rw [put_eq, ← single_apply h b m c]
  unfold updateSlice
  rw [dif_pos (fun a => match a with
    | ⟨0, _⟩ => (by show d.val ≤ d.val ∧ d.val < d.val + 1; omega)
    | ⟨1, _⟩ => (by show 0 ≤ b.val ∧ b.val < 0 + 16; omega)
    | ⟨2, _⟩ => (by show 0 ≤ m.val ∧ m.val < 0 + 255; omega)
    | ⟨3, _⟩ => (by show 0 ≤ c.val ∧ c.val < 0 + 3; omega))]
  refine congrArg (single h) (funext fun a => Fin.ext ?_)
  match a with
  | ⟨0, _⟩ => show d.val - d.val = 0; omega
  | ⟨1, _⟩ => rfl
  | ⟨2, _⟩ => rfl
  | ⟨3, _⟩ => rfl

theorem put_there (x : FVec Ideal S509x16x255x3 .f32) (h : FVec Ideal S16x255x3 .f32) (d e : Fin 509) (he : e.val ≠ d.val) (b : Fin 16)
    (m : Fin 255) (c : Fin 3) : put x h (word d.val) (ix4 e b m c) = x (ix4 e b m c) := by
  rw [put_eq]
  unfold updateSlice
  rw [dif_neg fun hh => ?_]
  have h0 : d.val ≤ e.val ∧ e.val < d.val + 1 := hh 0
  omega

/-- A plane's number given to the three kinds, and to the four summands. -/
def give (k : ℕ) (hb : S16x255x1.BroadcastsInDim (Row k) ![0, 1, 2]) (y : FVec Ideal S16x255 .f32) : FVec Ideal (Row k) .f32 :=
  broadcastInDim (Row k) ![0, 1, 2] hb (broadcastInDim S16x255x1 ![0, 1] bcast_S16x255_S16x255x1_0_1 y)

theorem give_apply (k : ℕ) (hb : S16x255x1.BroadcastsInDim (Row k) ![0, 1, 2]) (y : FVec Ideal S16x255 .f32) (b : Fin 16) (m : Fin 255) (c : Fin k) :
    give k hb y (ix3 b m c) = y (ix2 b m) := by
  unfold give
  rw [spread_last, spread1]

end SwRef

end
-- ==== Proof.RefScores.lean ====
/- The reference's table of scores over the extended reals, and its two layouts by antidiagonals, where the letters are among
   the four and the predictions real. -/
module

public import proofs.«01_k».proof.Proof.Steps
public import proofs.«01_k».proof.Proof.RefMoves

@[expose] public section

noncomputable section

namespace SwRef

open Idealize.ShloMosaic Idealize.ShloMosaic.ValueIdx SwSpec Cert.ReferenceIdeal Cert.ReferenceIdeal.Gen Cert.ReferenceIdeal.Step

/-- The arguments hold the predictions `P` and the letters `τ`. -/
structure Given (x : FVec Ideal S16x256x4 .f32) (t : IVec S16x256 32) (P : Fin 16 → ℕ → Fin 4 → ℝ) (τ : Fin 16 → ℕ → Fin 4) : Prop where
  score : ∀ b (s : Fin 256) k, x (ix3 b s k) = ((P b s.val k : ℝ) : EReal)
  letter : ∀ b (l : Fin 256), t (ix2 b l) = BitVec.ofNat 32 (τ b l.val).val

variable {x : FVec Ideal S16x256x4 .f32} {t : IVec S16x256 32} {P : Fin 16 → ℕ → Fin 4 → ℝ} {τ : Fin 16 → ℕ → Fin 4}

theorem same_word (i j : Fin 4) : IntOp.cmpi .eq (BitVec.ofNat 32 i.val) (BitVec.ofNat 32 j.val) = if i = j then 1#1 else 0#1 := by
  revert i j; decide

/-- One where the letter is `k`, zero elsewhere. -/
theorem letter_apply (G : Given x t P τ) (b : Fin 16) (l : Fin 256) (k : Fin 4) :
    (A_main_v2 (F := Ideal) x t (ix3 b l k) : EReal) = if τ b l.val = k then 1 else 0 := by
  have e0 : A_main_call0_v2 (F := Ideal) x t (ix3 b l k) = t (ix2 b l) := by
    unfold A_main_call0_v2 A_main_call0_v0
    rw [broadcastInDim_apply _ _ _ (ix3 b l k) (ix3 b l 0 : S16x256x1.Idx) (by intro a; fin_cases a <;> rfl)]
    exact broadcastInDim_apply _ _ _ _ _ (by intro a; fin_cases a <;> rfl)
  have e1 : K_main_call0_v3 (F := Ideal) (ix3 b l k) = BitVec.ofNat 32 k.val := by
    unfold K_main_call0_v3
    exact (broadcastInDim_apply _ _ _ (ix3 b l k) (ix3 0 0 k : S1x1x4.Idx) (by intro a; fin_cases a <;> rfl)).trans rfl
  have e2 : A_main_call0_v4 (F := Ideal) x t (ix3 b l k) = if τ b l.val = k then 1#1 else 0#1 := by
    show IntOp.cmpi .eq (A_main_call0_v2 (F := Ideal) x t (ix3 b l k)) (K_main_call0_v3 (F := Ideal) (ix3 b l k)) = _
    rw [e0, e1, G.letter, same_word]
  show ((((A_main_call0_v4 (F := Ideal) x t (ix3 b l k)).toNat : ℕ) : ℝ) : EReal) = _
  rw [e2]
  split_ifs <;> simp

/-- The product over the four letters at an entry. -/
theorem product_apply (y : FVec Ideal S16x256x4 .f32) (b : Fin 16) (s l : Fin 256) :
    (Host.dotGeneral dot_S16x256x4_S16x256x4_S16x256x256_2_2_1_1_0_0 none x y : FVec Ideal S16x256x256 .f32) (ix3 b s l)
      = ∑ k : Fin 4, (x (ix3 b s k) : EReal) * (y (ix3 b l k) : EReal) := by
  show FloatOps.dotGeneral _ none _ x y (ix3 b s l) = _
  rw [Idealize.ShloMosaic.Ideal.dotGeneral_apply, ← Equiv.sum_comp (contrEquiv1 dot_S16x256x4_S16x256x4_S16x256x256_2_2_1_1_0_0 4 rfl rfl).symm]
  refine Finset.sum_congr rfl fun k _ => ?_
  have hk := contrEquiv1_symm_val dot_S16x256x4_S16x256x4_S16x256x256_2_2_1_1_0_0 4 rfl rfl k
  have hl : dot_S16x256x4_S16x256x4_S16x256x256_2_2_1_1_0_0.lhsIdx (ix3 b s l) ((contrEquiv1 _ 4 rfl rfl).symm k) = ix3 b s k := by
    funext a; apply Fin.ext
    match a with
    | ⟨0, _⟩ => rfl
    | ⟨1, _⟩ => rfl
    | ⟨2, _⟩ => exact hk
  have hr : dot_S16x256x4_S16x256x4_S16x256x256_2_2_1_1_0_0.rhsIdx (ix3 b s l) ((contrEquiv1 _ 4 rfl rfl).symm k) = ix3 b l k := by
    funext a; apply Fin.ext
    match a with
    | ⟨0, _⟩ => rfl
    | ⟨1, _⟩ => rfl
    | ⟨2, _⟩ => exact hk
  rw [hl, hr]

/-- An entry of the table of scores. -/
theorem score_apply (G : Given x t P τ) (b : Fin 16) (s l : Fin 256) :
    A_main_v3 (F := Ideal) x t (ix3 b s l) = ((SwModel.pairs P τ b s.val l.val : ℝ) : EReal) := by
  unfold A_main_v3
  rw [product_apply]
  refine (Finset.sum_eq_single (τ b l.val) (fun k _ hk => ?_) (fun h => absurd (Finset.mem_univ _) h)).trans ?_
  · rw [letter_apply G, if_neg (Ne.symm hk), mul_zero]
  · rw [letter_apply G, if_pos rfl, mul_one, G.score]
    rfl

theorem fill_apply (i : S16x509x255.Idx) : K_main_v23 (F := Ideal) i = (⊥ : EReal) := by
  unfold K_main_v23; rw [broadcastInDim_scalar_apply]; exact low_word
theorem fill_again (i : S16x509x255.Idx) : K_main_v58 (F := Ideal) i = (⊥ : EReal) := by
  unfold K_main_v58; rw [broadcastInDim_scalar_apply]; exact low_word

theorem places_again : K_main_v71 (F := Ideal) = K_main_v36 (F := Ideal) := rfl

/-- A table's entry on an antidiagonal, minus infinity where the antidiagonal has none. -/
def cell (f : ℕ → ℕ → ℝ) (d : ℕ) (l : ℤ) : EReal := if Inside d l then ((f l.toNat (d - l).toNat : ℝ) : EReal) else ⊥

/-- The scores of the cells' own pairs, laid out. -/
theorem here_apply (G : Given x t P τ) (d : Fin 509) (b : Fin 16) (m : Fin 255) :
    (A_main_v38 (F := Ideal) x t (ix3 d b m) : EReal) = cell (SwModel.pairs P τ b) d.val (row d.val m) := by
  unfold A_main_v38 A_main_v37
  rw [transpose_apply _ _ _ (ix3 d b m) (ix3 b d m) (by intro a; fin_cases a <;> rfl)]
  refine rotated _ _ (fun b => SwModel.pairs P τ b) (fun b a c => ?_) fill_apply b d m
  have ha := a.isLt
  have hc := c.isLt
  unfold A_main_v4
  refine (extractStridedSlice_apply _ _ _ (ix3 b a c) (ix3 b (⟨a.val, by omega⟩ : Fin 256) (⟨c.val, by omega⟩ : Fin 256)) fun q => ?_).trans
    (score_apply G b _ _)
  match q with
  | ⟨0, _⟩ => exact (Nat.zero_add _).symm
  | ⟨1, _⟩ => exact (Nat.zero_add _).symm
  | ⟨2, _⟩ => exact (Nat.zero_add _).symm

/-- The scores of the pairs after them, laid out. -/
theorem after_apply (G : Given x t P τ) (d : Fin 509) (b : Fin 16) (m : Fin 255) :
    (A_main_v73 (F := Ideal) x t (ix3 d b m) : EReal)
      = cell (fun i j => SwModel.pairs P τ b (i + 1) (j + 1)) d.val (row d.val m) := by
  unfold A_main_v73 A_main_v72
  rw [transpose_apply _ _ _ (ix3 d b m) (ix3 b d m) (by intro a; fin_cases a <;> rfl), places_again]
  refine rotated _ _ (fun b i j => SwModel.pairs P τ b (i + 1) (j + 1)) (fun b a c => ?_) fill_again b d m
  have ha := a.isLt
  have hc := c.isLt
  unfold A_main_v39
  refine (extractStridedSlice_apply _ _ _ (ix3 b a c) (ix3 b (⟨a.val + 1, by omega⟩ : Fin 256) (⟨c.val + 1, by omega⟩ : Fin 256)) fun q => ?_).trans
    (score_apply G b _ _)
  match q with
  | ⟨0, _⟩ => exact (Nat.zero_add _).symm
  | ⟨1, _⟩ => show a.val + 1 = 1 + a.val; omega
  | ⟨2, _⟩ => show c.val + 1 = 1 + c.val; omega

/-- Adding a cell's score multiplies by its weight. -/
theorem lg_cell {c : ℝ} (hc : 0 ≤ c) (X : ℕ → ℕ → ℝ) (d : ℕ) (l : ℤ) : lg c + cell X d l = lg (c * wt X d l) := by
  unfold cell wt
  split_ifs
  · exact lg_add hc _
  · rw [mul_zero, lg_zero, EReal.add_bot]

theorem lg_cell' {c : ℝ} (hc : 0 ≤ c) (X : ℕ → ℕ → ℝ) (d : ℕ) (l : ℤ) :
    lg c + cell (fun i j => X (i + 1) (j + 1)) d l = lg (c * wt' X d l) := by
  unfold cell wt'
  split_ifs
  · exact lg_add hc _
  · rw [mul_zero, lg_zero, EReal.add_bot]

theorem cell_out (f : ℕ → ℕ → ℝ) {d : ℕ} {l : ℤ} (h : ¬Inside d l) (e : EReal) : e + cell f d l = ⊥ := by
  unfold cell; rw [if_neg h, EReal.add_bot]

/-- The gap scores. -/
theorem open_score : K_main_v0 (F := Ideal) ix0 = lg go :=
  congrArg Idealize.ShloMosaic.Ideal.log SwModel.open_word
theorem extend_score : K_main_v1 (F := Ideal) ix0 = lg ge :=
  congrArg Idealize.ShloMosaic.Ideal.log SwModel.extend_word

/-- Whose turn it is at a trip. -/
theorem turn_apply (d : Fin 509) : K_main_v78 (F := Ideal) (ix1 d) = BitVec.ofNat 32 ((d.val + 1) % 2) := by
  have e : K_main_v76 (F := Ideal) (ix1 d) = BitVec.ofNat 32 (d.val + 1) := (BitVec.ofNat_add d.val 1).symm
  show IntOp.remsi .host (K_main_v76 (F := Ideal) (ix1 d)) 2#32 = _
  rw [e, odd_word _ (by omega)]

theorem empty_apply (i : S2x16x255x3.Idx) : K_main_v79 (F := Ideal) i = (⊥ : EReal) := by
  unfold K_main_v79; rw [broadcastInDim_scalar_apply]; exact low_word

end SwRef

end
-- ==== Proof.RefTrip.lean ====
/- One trip of the reference's scan as a function of the arrays it carries, put together from the moves and the logarithms of
   sums of exponentials. -/
module

public import proofs.«01_k».proof.Proof.RefScores
public import proofs.«01_k».proof.Proof.Gen.ReferenceIdeal.Run

@[expose] public section

noncomputable section

namespace SwRef

open Idealize.ShloMosaic Idealize.ShloMosaic.TcCoe Idealize.SL.Sem Idealize.ShloMosaic.StableHlo
open Cert.ReferenceIdeal Cert.ReferenceIdeal.Gen Cert.ReferenceIdeal.Value

variable (V : Valuation τ sig (Elt Ideal))

/-! The arrays a trip reads. -/

def heres : FVec Ideal S509x16x255 .f32 := V (Proc.devRef .tc main_v81_0)
def afters : FVec Ideal S509x16x255 .f32 := V (Proc.devRef .tc main_v81_1)
def turns : IVec S509 32 := V (Proc.devRef .tc main_v81_2)
def opens : FVec Ideal S_ .f32 := V (Proc.devRef .tc main_v81_3)
def extends' : FVec Ideal S_ .f32 := V (Proc.devRef .tc main_v81_4)
def count : IVec S_ 32 := V (Proc.devRef .tc main_v81_5)
def carry : FVec Ideal S2x16x255x3 .f32 := V (Proc.devRef .tc main_v81_6)
def ends : FVec Ideal S509x16x255x3 .f32 := V (Proc.devRef .tc main_v81_7)

/-- The turn's flag. -/
def flag : IVec S_ 32 := pick (turns V) (count V)

/-- The entries summed for alignments that end in a pair, in a gap on the right, in a gap downwards. -/
def aligns : FVec Ideal (Row 4) .f32 :=
  addf (padded (layer0 (carry V))) (give 4 bcast_S16x255x1_S16x255x4_0_1_2 (plane (heres V) (count V)))
def rights : FVec Ideal (Row 2) .f32 :=
  two (addf (choose (flag V) (moved (layer1 (carry V))) (layer1 (carry V))) (three (opens V) (extends' V) (opens V)))
def downs : FVec Ideal (Row 3) .f32 :=
  addf (choose (flag V) (layer1 (carry V)) (back (layer1 (carry V)))) (three (opens V) (opens V) (extends' V))

/-- The new layer. -/
def fresh : FVec Ideal S16x255x3 .f32 :=
  joined (lses reducesTo_S16x255x4_S16x255_d2 bcast_S16x255x1_S16x255x4_0_1_2 (aligns V))
    (lses reducesTo_S16x255x2_S16x255_d2 bcast_S16x255x1_S16x255x2_0_1_2 (rights V))
    (lses reducesTo_S16x255x3_S16x255_d2 bcast_S16x255x1_S16x255x3_0_1_2 (downs V))

theorem layer1_eq : res_main_while0b_v100 V = layer1 (carry V) := by unfold res_main_while0b_v100; rfl
theorem flag_eq : res_main_while0b_v96 V = flag V := by unfold res_main_while0b_v96; rfl
theorem aligns_eq : res_main_while0b_v112 V = aligns V := by unfold res_main_while0b_v112; rfl
theorem rights_eq : res_main_while0b_v127 V = rights V := by
  unfold res_main_while0b_v127
  rw [layer1_eq, flag_eq]
  rfl
theorem downs_eq : res_main_while0b_v126 V = downs V := by
  unfold res_main_while0b_v126
  rw [layer1_eq, flag_eq]
  rfl

theorem aligns_base : res_main_while0b_v133 V = bases reducesTo_S16x255x4_S16x255_d2 (aligns V) := by
  unfold res_main_while0b_v133 res_main_while0b_v129
  rw [aligns_eq]
  rfl
theorem rights_base : res_main_while0b_v146 V = bases reducesTo_S16x255x2_S16x255_d2 (rights V) := by
  unfold res_main_while0b_v146 res_main_while0b_v142
  rw [rights_eq]
  rfl
theorem downs_base : res_main_while0b_v159 V = bases reducesTo_S16x255x3_S16x255_d2 (downs V) := by
  unfold res_main_while0b_v159 res_main_while0b_v155
  rw [downs_eq]
  rfl

theorem fresh_eq : res_main_while0b_v167 V = fresh V := by
  unfold res_main_while0b_v167
  rw [aligns_base, rights_base, downs_base, aligns_eq, rights_eq, downs_eq]
  rfl

theorem carry_next : carry (STEP V) = stacked (layer1 (carry V)) (fresh V) := by
  refine (STEP_main_v81_6 V).trans ?_
  unfold step_main_v81_6
  rw [layer1_eq, fresh_eq]
  rfl

theorem ends_next : ends (STEP V)
    = put (ends V) (addf (fresh V) (give 3 bcast_S16x255x1_S16x255x3_0_1_2 (plane (afters V) (count V)))) (count V) := by
  refine (STEP_main_v81_7 V).trans ?_
  unfold step_main_v81_7
  rw [fresh_eq]
  rfl

theorem count_next : count (STEP V) = addi (count V) (constantI S_ 32 1#32) := by
  refine (STEP_main_v81_5 V).trans ?_
  unfold step_main_v81_5
  rfl

theorem heres_next : heres (STEP V) = heres V := STEP_main_v81_0 V
theorem afters_next : afters (STEP V) = afters V := STEP_main_v81_1 V
theorem turns_next : turns (STEP V) = turns V := STEP_main_v81_2 V
theorem opens_next : opens (STEP V) = opens V := STEP_main_v81_3 V
theorem extends_next : extends' (STEP V) = extends' V := STEP_main_v81_4 V

end SwRef

end
-- ==== Proof.RefLoop.lean ====
/- The reference's scan over the extended reals: after `n` trips the carried layers are the logarithms of antidiagonals `n - 2`
   and `n - 1` of the recurrence, and the ends of the first `n` antidiagonals are written. -/
module

public import proofs.«01_k».proof.Proof.RefTrip

@[expose] public section

noncomputable section

namespace SwRef

open Idealize.ShloMosaic Idealize.ShloMosaic.ValueIdx Idealize.SL.Sem SwSpec
open Cert.ReferenceIdeal Cert.ReferenceIdeal.Gen Cert.ReferenceIdeal.Value

/-- The three kinds of alignments that end at row `l` of an antidiagonal. -/
def kinds (c : Diag) (l : ℤ) : Fin 3 → ℝ := ![c.a l, c.r l, c.d l]

theorem kinds_nonneg (X : ℕ → ℕ → ℝ) (n : ℕ) (l : ℤ) (c : Fin 3) : 0 ≤ kinds (run X n) l c := by
  have h := run_nonneg X n
  match c with
  | ⟨0, _⟩ => exact h.a l
  | ⟨1, _⟩ => exact h.r l
  | ⟨2, _⟩ => exact h.d l

theorem kinds_zero (X : ℕ → ℕ → ℝ) (n : ℕ) (l : ℤ) (h : l < 0 ∨ (n : ℤ) ≤ l) (c : Fin 3) : kinds (run X n) l c = 0 := by
  obtain ⟨ha, hr, hd, -⟩ := run_zero X n l h
  match c with
  | ⟨0, _⟩ => exact ha
  | ⟨1, _⟩ => exact hr
  | ⟨2, _⟩ => exact hd

theorem before (X : ℕ → ℕ → ℝ) (l : ℤ) : ∀ n, (run X n).g l = (run X (n - 1)).all l
  | 0 => by show (0 : ℝ) = 0 + 0 + 0; norm_num
  | _ + 1 => rfl

/-- Position `m` of antidiagonal `n` is a row of the table, with respect to both its ends. -/
def Near (n : ℤ) (m : Fin 255) : Prop := row n m ≤ 254 ∧ n - row n m ≤ 254

/-- The state before trip `n`. -/
structure At (X : Fin 16 → ℕ → ℕ → ℝ) (n : ℕ) (V : Valuation τ sig (Elt Ideal)) : Prop where
  heres : ∀ (d : Fin 509) b m, (heres V (ix3 d b m) : EReal) = cell (X b) d.val (row d.val m)
  afters : ∀ (d : Fin 509) b m, (afters V (ix3 d b m) : EReal) = cell (fun i j => X b (i + 1) (j + 1)) d.val (row d.val m)
  turns : ∀ d : Fin 509, turns V (ix1 d) = BitVec.ofNat 32 ((d.val + 1) % 2)
  opens : opens V ix0 = lg go
  extend : extends' V ix0 = lg ge
  count : count V = word n
  new : ∀ b m c, Near ((n : ℤ) - 1) m → (carry V (ix4 1 b m c) : EReal) = lg (kinds (run (X b) n) (row ((n : ℤ) - 1) m) c)
  old : ∀ b m c, Near ((n : ℤ) - 2) m → (carry V (ix4 0 b m c) : EReal) = lg (kinds (run (X b) (n - 1)) (row ((n : ℤ) - 2) m) c)
  ends : ∀ d : Fin 509, d.val < n → ∀ b m c,
    (ends V (ix4 d b m c) : EReal) = lg (kinds (run (X b) (d.val + 1)) (row d.val m) c * wt' (X b) d.val (row d.val m))

variable {X : Fin 16 → ℕ → ℕ → ℝ} {n : ℕ} {V : Valuation τ sig (Elt Ideal)}

theorem flag_apply (H : At X n V) (hn : n < 509) : flag V ix0 = BitVec.ofNat 32 ((n + 1) % 2) := by
  unfold flag
  rw [H.count]
  exact (pick_apply (turns V) ⟨n, hn⟩).trans (H.turns ⟨n, hn⟩)

/-- What a trip takes for a gap on the right: the layer before at the same row. -/
theorem right_source (H : At X n V) (hn : n < 509) (b : Fin 16) (m : Fin 255) (c : Fin 3) (hm : Near n m) :
    (choose (flag V) (moved (layer1 (carry V))) (layer1 (carry V)) (ix3 b m c) : EReal) = lg (kinds (run (X b) n) (row n m) c) := by
  rw [choose_apply, flag_apply H hn]
  have hm' := hm
  unfold Near row at hm'
  rcases Nat.mod_two_eq_zero_or_one n with h | h
  · have e : (n + 1) % 2 = 1 := by omega
    rw [e, if_pos rfl]
    by_cases h0 : m.val = 0
    · rw [moved_first _ b m h0 c, kinds_zero _ _ _ (Or.inr (by unfold row; omega)) c, lg_zero]
    · obtain ⟨k, hk⟩ : ∃ k : Fin 255, m.val = k.val + 1 := ⟨⟨m.val - 1, by omega⟩, by show m.val = m.val - 1 + 1; omega⟩
      have er : row ((n : ℤ) - 1) k = row n m := by unfold row; omega
      rw [moved_apply _ b m k hk c, layer1_apply, H.new b k c (by unfold Near; rw [er]; unfold row; omega), er]
  · have e : (n + 1) % 2 = 0 := by omega
    have er : row ((n : ℤ) - 1) m = row n m := by unfold row; omega
    rw [e, if_neg (by decide), layer1_apply, H.new b m c (by unfold Near; rw [er]; unfold row; omega), er]

/-- What a trip takes for a gap downwards: the layer before at the row above. -/
theorem down_source (H : At X n V) (hn : n < 509) (b : Fin 16) (m : Fin 255) (c : Fin 3) (hm : Near n m) :
    (choose (flag V) (layer1 (carry V)) (back (layer1 (carry V))) (ix3 b m c) : EReal) = lg (kinds (run (X b) n) (row n m - 1) c) := by
  rw [choose_apply, flag_apply H hn]
  have hm' := hm
  unfold Near row at hm'
  rcases Nat.mod_two_eq_zero_or_one n with h | h
  · have e : (n + 1) % 2 = 1 := by omega
    have er : row ((n : ℤ) - 1) m = row n m - 1 := by unfold row; omega
    rw [e, if_pos rfl, layer1_apply, H.new b m c (by unfold Near; rw [er]; unfold row; omega), er]
  · have e : (n + 1) % 2 = 0 := by omega
    rw [e, if_neg (by decide)]
    by_cases h0 : m.val = 254
    · rw [back_last _ b m h0 c, kinds_zero _ _ _ (Or.inl (by unfold row; omega)) c, lg_zero]
    · obtain ⟨k, hk⟩ : ∃ k : Fin 255, k.val = m.val + 1 := ⟨⟨m.val + 1, by omega⟩, rfl⟩
      have er : row ((n : ℤ) - 1) k = row n m - 1 := by unfold row; omega
      rw [back_apply _ b m k hk c, layer1_apply, H.new b k c (by unfold Near; rw [er]; unfold row; omega), er]

theorem one_zero : (0 : EReal) = lg 1 := by rw [lg_pos one_pos, Real.log_one]; rfl

theorem aligns_apply (H : At X n V) (hn : n < 509) (b : Fin 16) (m : Fin 255) (hm : Near n m) (c : Fin 4) :
    (aligns V (ix3 b m c) : EReal)
      = lg ((![kinds (run (X b) (n - 1)) (row n m - 1) 0, kinds (run (X b) (n - 1)) (row n m - 1) 1, kinds (run (X b) (n - 1)) (row n m - 1) 2, 1] : Fin 4 → ℝ) c
          * wt (X b) n (row n m)) := by
  have hw : (give 4 bcast_S16x255x1_S16x255x4_0_1_2 (plane (heres V) (count V)) (ix3 b m c) : EReal) = cell (X b) n (row n m) := by
    rw [give_apply, H.count]
    exact (plane_apply (heres V) ⟨n, hn⟩ b m).trans (H.heres ⟨n, hn⟩ b m)
  have er : row ((n : ℤ) - 2) m = row n m - 1 := by unfold row; omega
  have hm' := hm
  unfold Near at hm'
  have hl (k : Fin 3) : (padded (layer0 (carry V)) (ix3 b m k.castSucc) : EReal) = lg (kinds (run (X b) (n - 1)) (row n m - 1) k) := by
    rw [padded_old, layer0_apply, H.old b m k (by unfold Near; rw [er]; omega), er]
  show (padded (layer0 (carry V)) (ix3 b m c) : EReal) + _ = _
  rw [hw]
  match c with
  | ⟨0, _⟩ => exact (congrArg (· + _) (hl 0)).trans (lg_cell (kinds_nonneg _ _ _ _) _ _ _)
  | ⟨1, _⟩ => exact (congrArg (· + _) (hl 1)).trans (lg_cell (kinds_nonneg _ _ _ _) _ _ _)
  | ⟨2, _⟩ => exact (congrArg (· + _) (hl 2)).trans (lg_cell (kinds_nonneg _ _ _ _) _ _ _)
  | ⟨3, _⟩ => exact (congrArg (· + _) ((padded_new _ b m).trans one_zero)).trans (lg_cell zero_le_one _ _ _)

theorem rights_apply (H : At X n V) (hn : n < 509) (b : Fin 16) (m : Fin 255) (hm : Near n m) (c : Fin 2) :
    (rights V (ix3 b m c) : EReal) = lg (kinds (run (X b) n) (row n m) c.castSucc * (![go, ge] : Fin 2 → ℝ) c) := by
  unfold rights
  rw [two_apply]
  show (choose (flag V) (moved (layer1 (carry V))) (layer1 (carry V)) (ix3 b m c.castSucc) : EReal)
    + (three (opens V) (extends' V) (opens V) (ix3 b m c.castSucc) : EReal) = _
  rw [right_source H hn b m _ hm, three_apply, H.opens, H.extend]
  match c with
  | ⟨0, _⟩ => exact lg_add_log (kinds_nonneg _ _ _ _) go_pos
  | ⟨1, _⟩ => exact lg_add_log (kinds_nonneg _ _ _ _) ge_pos

theorem downs_apply (H : At X n V) (hn : n < 509) (b : Fin 16) (m : Fin 255) (hm : Near n m) (c : Fin 3) :
    (downs V (ix3 b m c) : EReal) = lg (kinds (run (X b) n) (row n m - 1) c * (![go, go, ge] : Fin 3 → ℝ) c) := by
  unfold downs
  show (choose (flag V) (layer1 (carry V)) (back (layer1 (carry V))) (ix3 b m c) : EReal)
    + (three (opens V) (opens V) (extends' V) (ix3 b m c) : EReal) = _
  rw [down_source H hn b m _ hm, three_apply, H.opens, H.extend]
  match c with
  | ⟨0, _⟩ => exact lg_add_log (kinds_nonneg _ _ _ _) go_pos
  | ⟨1, _⟩ => exact lg_add_log (kinds_nonneg _ _ _ _) go_pos
  | ⟨2, _⟩ => exact lg_add_log (kinds_nonneg _ _ _ _) ge_pos

/-- The new layer's entries. -/
theorem fresh_apply (H : At X n V) (hn : n < 509) (b : Fin 16) (m : Fin 255) (hm : Near n m) (c : Fin 3) :
    (fresh V (ix3 b m c) : EReal) = lg (kinds (run (X b) (n + 1)) (row n m) c) := by
  unfold fresh
  rw [joined_apply]
  have ha := lses_apply reducesTo_S16x255x4_S16x255_d2 bcast_S16x255x1_S16x255x4_0_1_2 (by decide) (aligns V) b m _ (fun c => by
    refine mul_nonneg ?_ (wt_nonneg (X b) n (row n m))
    match c with
    | ⟨0, _⟩ => exact kinds_nonneg (X b) (n - 1) (row n m - 1) 0
    | ⟨1, _⟩ => exact kinds_nonneg (X b) (n - 1) (row n m - 1) 1
    | ⟨2, _⟩ => exact kinds_nonneg (X b) (n - 1) (row n m - 1) 2
    | ⟨3, _⟩ => exact zero_le_one) (aligns_apply H hn b m hm)
  have hr := lses_apply reducesTo_S16x255x2_S16x255_d2 bcast_S16x255x1_S16x255x2_0_1_2 (by decide) (rights V) b m _ (fun c => by
    refine mul_nonneg (kinds_nonneg _ _ _ _) ?_
    match c with
    | ⟨0, _⟩ => exact go_pos.le
    | ⟨1, _⟩ => exact ge_pos.le) (rights_apply H hn b m hm)
  have hd := lses_apply reducesTo_S16x255x3_S16x255_d2 bcast_S16x255x1_S16x255x3_0_1_2 (by decide) (downs V) b m _ (fun c => by
    refine mul_nonneg (kinds_nonneg _ _ _ _) ?_
    match c with
    | ⟨0, _⟩ => exact go_pos.le
    | ⟨1, _⟩ => exact go_pos.le
    | ⟨2, _⟩ => exact ge_pos.le) (downs_apply H hn b m hm)
  have sa : ∑ c : Fin 4, (![kinds (run (X b) (n - 1)) (row n m - 1) 0, kinds (run (X b) (n - 1)) (row n m - 1) 1,
      kinds (run (X b) (n - 1)) (row n m - 1) 2, 1] : Fin 4 → ℝ) c * wt (X b) n (row n m) = (run (X b) (n + 1)).a (row n m) := by
    rw [Fin.sum_univ_four]
    show _ = wt (X b) n (row n m) * ((run (X b) n).g (row n m - 1) + 1)
    rw [before]
    show (run (X b) (n - 1)).a (row n m - 1) * _ + (run (X b) (n - 1)).r (row n m - 1) * _ + (run (X b) (n - 1)).d (row n m - 1) * _ + 1 * _
      = wt (X b) n (row n m) * ((run (X b) (n - 1)).a (row n m - 1) + (run (X b) (n - 1)).r (row n m - 1) + (run (X b) (n - 1)).d (row n m - 1) + 1)
    ring
  have sr : ∑ c : Fin 2, kinds (run (X b) n) (row n m) c.castSucc * (![go, ge] : Fin 2 → ℝ) c = (run (X b) (n + 1)).r (row n m) := by
    rw [Fin.sum_univ_two]
    show (run (X b) n).a (row n m) * go + (run (X b) n).r (row n m) * ge = go * (run (X b) n).a (row n m) + ge * (run (X b) n).r (row n m)
    ring
  have sd : ∑ c : Fin 3, kinds (run (X b) n) (row n m - 1) c * (![go, go, ge] : Fin 3 → ℝ) c = (run (X b) (n + 1)).d (row n m) := by
    rw [Fin.sum_univ_three]
    show (run (X b) n).a (row n m - 1) * go + (run (X b) n).r (row n m - 1) * go + (run (X b) n).d (row n m - 1) * ge
      = go * ((run (X b) n).a (row n m - 1) + (run (X b) n).r (row n m - 1)) + ge * (run (X b) n).d (row n m - 1)
    ring
  match c with
  | ⟨0, _⟩ => exact ha.trans (congrArg lg sa)
  | ⟨1, _⟩ => exact hr.trans (congrArg lg sr)
  | ⟨2, _⟩ => exact hd.trans (congrArg lg sd)

/-- One trip. -/
theorem At.step (H : At X n V) (hn : n < 509) : At X (n + 1) (STEP V) where
  heres := by rw [heres_next]; exact H.heres
  afters := by rw [afters_next]; exact H.afters
  turns := by rw [turns_next]; exact H.turns
  opens := by rw [opens_next]; exact H.opens
  extend := by rw [extends_next]; exact H.extend
  count := by
    rw [count_next, H.count]
    funext i
    exact (BitVec.ofNat_add n 1).symm
  new := by
    intro b m c hm
    have e : ((n + 1 : ℕ) : ℤ) - 1 = n := by push_cast; ring
    rw [e] at hm ⊢
    rw [carry_next, stacked_1]
    exact fresh_apply H hn b m hm c
  old := by
    intro b m c hm
    have e : ((n + 1 : ℕ) : ℤ) - 2 = (n : ℤ) - 1 := by push_cast; ring
    rw [e] at hm ⊢
    rw [carry_next, stacked_0, layer1_apply]
    exact H.new b m c hm
  ends := by
    intro d hd b m c
    rw [ends_next, H.count]
    by_cases h : d.val = n
    · obtain rfl : d = ⟨n, hn⟩ := Fin.ext h
      refine (put_here _ _ ⟨n, hn⟩ b m c).trans ?_
      have hw : (give 3 bcast_S16x255x1_S16x255x3_0_1_2 (plane (SwRef.afters V) (word n)) (ix3 b m c) : EReal)
          = cell (fun i j => X b (i + 1) (j + 1)) n (row n m) := by
        rw [give_apply]
        exact (plane_apply (SwRef.afters V) ⟨n, hn⟩ b m).trans (H.afters ⟨n, hn⟩ b m)
      show (fresh V (ix3 b m c) : EReal) + _ = _
      rw [hw]
      by_cases hi : Inside n (row n m)
      · have hm : Near n m := by unfold Inside at hi; unfold Near; omega
        rw [fresh_apply H hn b m hm c]
        exact lg_cell' (kinds_nonneg _ _ _ _) (X b) n (row n m)
      · rw [cell_out _ hi]
        show ⊥ = lg (_ * wt' (X b) n (row n m))
        rw [show wt' (X b) n (row n m) = 0 from if_neg hi, mul_zero, lg_zero]
    · refine (put_there (SwRef.ends V) _ ⟨n, hn⟩ d h b m c).trans (H.ends d (by omega) b m c)

theorem At.run (H : At X 0 V) : ∀ k, k ≤ 509 → At X k (STEP^[k] V)
  | 0, _ => H
  | k + 1, hk => by
    rw [Function.iterate_succ_apply']
    exact (At.run H k (by omega)).step (by omega)

end SwRef

end
-- ==== Proof.RefCells.lean ====
/- The ends of all antidiagonals together: their sum over the positions is the sum over the cells of the table. -/
module

public import proofs.«01_k».proof.Proof.RefLoop

@[expose] public section

noncomputable section

namespace SwRef

open Idealize.ShloMosaic Idealize.ShloMosaic.ValueIdx SwSpec Cert.ReferenceIdeal Cert.ReferenceIdeal.Gen

/-- What the ends hold the logarithms of. -/
def weight (X : ℕ → ℕ → ℝ) (d : Fin 509) (m : Fin 255) (c : Fin 3) : ℝ :=
  kinds (run X (d.val + 1)) (row d.val m) c * wt' X d.val (row d.val m)

theorem weight_nonneg (X : ℕ → ℕ → ℝ) (d : Fin 509) (m : Fin 255) (c : Fin 3) : 0 ≤ weight X d m c :=
  mul_nonneg (kinds_nonneg X _ _ c) (wt'_nonneg X _ _)

theorem weight_sum (X : ℕ → ℕ → ℝ) (d : Fin 509) (m : Fin 255) :
    ∑ c : Fin 3, weight X d m c = (run X (d.val + 1)).all (row d.val m) * wt' X d.val (row d.val m) := by
  rw [Fin.sum_univ_three]
  show (run X (d.val + 1)).a _ * _ + (run X (d.val + 1)).r _ * _ + (run X (d.val + 1)).d _ * _
    = ((run X (d.val + 1)).a _ + (run X (d.val + 1)).r _ + (run X (d.val + 1)).d _) * _
  ring

/-- Where a cell lies. -/
def spot (p : Fin 255 × Fin 255) : Fin 509 × Fin 255 :=
  (⟨p.1.val + p.2.val, by have := p.1.isLt; have := p.2.isLt; omega⟩, ⟨(254 - p.1.val + p.2.val) / 2, by have := p.1.isLt; have := p.2.isLt; omega⟩)

theorem spot_row (p : Fin 255 × Fin 255) : row (spot p).1.val (spot p).2 = p.1.val := by
  have := p.1.isLt
  have := p.2.isLt
  show 127 + ((p.1.val + p.2.val : ℕ) : ℤ) / 2 - (((254 - p.1.val + p.2.val) / 2 : ℕ) : ℤ) = _
  omega

/-- The positions' sum is the cells'. -/
theorem spots_sum (X : ℕ → ℕ → ℝ) :
    ∑ p : Fin 509 × Fin 255, (run X (p.1.val + 1)).all (row p.1.val p.2) * wt' X p.1.val (row p.1.val p.2) = whole X := by
  unfold whole
  rw [← Fintype.sum_prod_type' (f := fun a b : Fin 255 => (run X (a.val + b.val + 1)).all (a.val : ℤ) * Real.exp (X (a.val + 1) (b.val + 1)))]
  symm
  refine Finset.sum_of_injOn spot ?_ (fun _ _ => Finset.mem_coe.2 (Finset.mem_univ _)) ?_ ?_
  · intro p _ q _ h
    have h1 : p.1.val + p.2.val = q.1.val + q.2.val := congrArg (fun u : Fin 509 × Fin 255 => u.1.val) h
    have h2 : (p.1.val : ℤ) = q.1.val := by rw [← spot_row p, ← spot_row q, h]
    exact Prod.ext (Fin.ext (by omega)) (Fin.ext (by omega))
  · intro p _ hp
    have hi : ¬Inside p.1.val (row p.1.val p.2) := fun hi => hp (by
      unfold Inside at hi
      have hd := p.1.isLt
      have hm := p.2.isLt
      refine ⟨(⟨(row p.1.val p.2).toNat, by omega⟩, ⟨(p.1.val - row p.1.val p.2).toNat, by omega⟩), Finset.mem_coe.2 (Finset.mem_univ _), ?_⟩
      refine Prod.ext (Fin.ext ?_) (Fin.ext ?_)
      · show (row p.1.val p.2).toNat + (p.1.val - row p.1.val p.2).toNat = p.1.val
        omega
      · show (254 - (row p.1.val p.2).toNat + (p.1.val - row p.1.val p.2).toNat) / 2 = p.2.val
        unfold row at hi ⊢
        omega)
    rw [show wt' X p.1.val (row p.1.val p.2) = 0 from if_neg hi, mul_zero]
  · intro p _
    have ha := p.1.isLt
    have hb := p.2.isLt
    rw [spot_row]
    show (run X (p.1.val + p.2.val + 1)).all (p.1.val : ℤ) * _ = (run X (p.1.val + p.2.val + 1)).all (p.1.val : ℤ) * wt' X (p.1.val + p.2.val) (p.1.val : ℤ)
    have hi : Inside (p.1.val + p.2.val) (p.1.val : ℤ) := by unfold Inside; push_cast; omega
    have e1 : ((p.1.val : ℤ)).toNat = p.1.val := by omega
    have e2 : (((p.1.val + p.2.val : ℕ) : ℤ) - (p.1.val : ℤ)).toNat = p.2.val := by omega
    rw [show wt' X (p.1.val + p.2.val) (p.1.val : ℤ) = Real.exp (X (p.1.val + 1) (p.2.val + 1)) from (if_pos hi).trans (by rw [e1, e2])]

/-- The entries of one batch entry's ends. -/
def fiber (b : Fin 16) : Finset S509x16x255x3.Idx :=
  Finset.univ.filter fun i => reducesTo_S509x16x255x3_S16_d0_2_3.drop i = ix1 b

theorem drop_apply (i : S509x16x255x3.Idx) : (reducesTo_S509x16x255x3_S16_d0_2_3.drop i 0 : Fin 16) = i 1 := rfl

theorem mem_fiber (b : Fin 16) (i : S509x16x255x3.Idx) : i ∈ fiber b ↔ (i 1 : Fin 16) = b := by
  unfold fiber
  rw [Finset.mem_filter, ← drop_apply i]
  constructor
  · intro h
    exact congrArg (fun j : S16.Idx => (j 0 : Fin 16)) h.2
  · intro h
    refine ⟨Finset.mem_univ _, ?_⟩
    generalize reducesTo_S509x16x255x3_S16_d0_2_3.drop i = j at h
    rw [eq_ix1 j]
    exact congrArg ix1 h

/-- An entry's antidiagonal, position and kind. -/
def parts (i : S509x16x255x3.Idx) : (Fin 509 × Fin 255) × Fin 3 := ((i 0, i 2), i 3)

theorem fiber_sum (X : ℕ → ℕ → ℝ) (b : Fin 16) : ∑ i ∈ fiber b, weight X (i 0) (i 2) (i 3) = whole X := by
  rw [← spots_sum X]
  have e : ∑ i ∈ fiber b, weight X (i 0) (i 2) (i 3) = ∑ p : (Fin 509 × Fin 255) × Fin 3, weight X p.1.1 p.1.2 p.2 := by
    symm
    refine Finset.sum_nbij (fun p => ix4 p.1.1 b p.1.2 p.2) ?_ ?_ ?_ ?_
    · intro p _
      exact (mem_fiber b _).2 rfl
    · intro p _ q _ h
      exact congrArg parts h
    · intro i hi
      have h := (mem_fiber b i).1 hi
      rw [Finset.coe_univ, Set.image_univ]
      refine ⟨parts i, ?_⟩
      subst h
      exact (eq_ix4 i).symm
    · intro p _
      rfl
  rw [e, Fintype.sum_prod_type]
  exact Finset.sum_congr rfl fun p _ => weight_sum X p.1 p.2

/-- One of the entries is positive: the first pair alone. -/
theorem weight_first (X : ℕ → ℕ → ℝ) : 0 < weight X 0 127 0 := by
  have h0 : row ((0 : Fin 509).val : ℤ) 127 = 0 := rfl
  have hi : Inside 0 0 := by unfold Inside; norm_num
  unfold weight
  rw [h0]
  have h1 : wt X 0 0 = Real.exp (X 0 0) := if_pos hi
  have h2 : wt' X 0 0 = Real.exp (X 1 1) := if_pos hi
  have h3 : kinds (run X 1) 0 0 = Real.exp (X 0 0) := by
    show wt X 0 0 * ((0 : ℝ) + 1) = _
    rw [h1]; ring
  show 0 < kinds (run X 1) 0 0 * wt' X 0 0
  rw [h3, h2]
  exact mul_pos (Real.exp_pos _) (Real.exp_pos _)

end SwRef

end
-- ==== Proof.RefEntry.lean ====
/- What the arrays hold when the scan of the reference starts. -/
module

public import proofs.«01_k».proof.Proof.Gen.ReferenceIdeal.Run
public import proofs.«01_k».proof.Proof.Gen.ReferenceIdeal.Step

@[expose] public section

noncomputable section

namespace SwRef

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F] (m : (ℓ : Loc nD τ sig) → Buf (Elt F) ℓ) (c : Dev nD)

/-- Two joined pairs of arrays are equal when their parts are. -/
theorem pair_congr {x x' y y' : IVec S255x255x1 32} (hx : x = x') (hy : y = y') :
    concatenate S255x255x2 2 [⟨S255x255x1, x⟩, ⟨S255x255x1, y⟩] concatenates_S255x255x1_S255x255x1_S255x255x2_d2
      = concatenate S255x255x2 2 [⟨S255x255x1, x'⟩, ⟨S255x255x1, y'⟩] concatenates_S255x255x1_S255x255x1_S255x255x2_d2 := by
  rw [hx, hy]

/-- The contents before the long stretch of operations. -/
abbrev early : Valuation τ sig (Elt F) := after hostOps0_1 (after hostOps0 (launchContents m c))

set_option maxRecDepth 65536 in
/-- The value read, part of the place table. -/
theorem early_34 : upto hostOps0_2 (early m c) 42 (Proc.devRef .tc main_v34) = Step.K_main_v34 (F := F) := by
  after_reads_simp; rfl
set_option maxRecDepth 65536 in
/-- The value read, part of the place table. -/
theorem early_35 : upto hostOps0_2 (early m c) 42 (Proc.devRef .tc main_v35) = Step.K_main_v35 (F := F) := by
  after_reads_simp; rfl

set_option maxRecDepth 65536 in
/-- The value read, part of the place table. -/
theorem early_69 : upto hostOps0_2 (early m c) 86 (Proc.devRef .tc main_v69) = Step.K_main_v69 (F := F) := by
  after_reads_simp; rfl
set_option maxRecDepth 65536 in
/-- The value read, part of the place table. -/
theorem early_70 : upto hostOps0_2 (early m c) 86 (Proc.devRef .tc main_v70) = Step.K_main_v70 (F := F) := by
  after_reads_simp; rfl

set_option maxRecDepth 65536 in
set_option maxHeartbeats 500000 in
/-- The array of letters, one number for each. -/
theorem early_2 : early m c (Proc.devRef .tc main_v2) = Step.A_main_v2 (m ((c.tc : Thread nD τ).loc main_arg0)) (m ((c.tc : Thread nD τ).loc main_arg1)) := by
  after_reads_simp; rfl

set_option maxRecDepth 65536 in
set_option maxHeartbeats 500000 in
/-- The scores a scan is given, as a function of the arguments. -/
theorem entry_here : entryContents preI m c (Proc.devRef .tc main_v81_0) = Step.A_main_v38 (m ((c.tc : Thread nD τ).loc main_arg0)) (m ((c.tc : Thread nD τ).loc main_arg1)) := by
  simp only [entryContents, afterL_cons, afterL_nil]; after_reads_simp
  rw [pair_congr (early_34 m c) (early_35 m c)]
  refine (id_eq _).trans ?_
  unfold Step.A_main_v38
  refine congrArg (fun y => transpose S509x16x255 [1, 0, 2] y transposes_S16x509x255_S509x16x255_1_0_2) ?_
  unfold Step.A_main_v37
  have h1 : broadcastInDim S16x509x255 ![] bcast_S_S16x509x255 (constant S_ .f32 4286578688#32) = Step.K_main_v23 (F := F) := rfl
  have h2 : concatenate S255x255x2 2 [⟨S255x255x1, (Step.K_main_v34 (F := F))⟩, ⟨S255x255x1, (Step.K_main_v35 (F := F))⟩] concatenates_S255x255x1_S255x255x1_S255x255x2_d2 = Step.K_main_v36 (F := F) := rfl
  rw [h1, h2]
  refine congrArg (fun y => Host.scatter scatter_S16x509x255_S255x255x2_S16x255x255_0_12_12_2 (fun _ b => b) (Step.K_main_v23 (F := F)) (Step.K_main_v36 (F := F)) y) ?_
  unfold Step.A_main_v4
  refine congrArg (fun y : (⟨S16x256x256, .f32⟩ : BufTy).Contents (Elt F) => extractStridedSlice S16x255x255 ![0, 0, 0] y slices_S16x256x256_S16x255x255_0_0_0) ?_
  unfold Step.A_main_v3
  refine congrArg (fun y => Host.dotGeneral dot_S16x256x4_S16x256x4_S16x256x256_2_2_1_1_0_0 none (m ((c.tc : Thread nD τ).loc main_arg0)) y) ?_
  rfl

set_option maxRecDepth 65536 in
set_option maxHeartbeats 500000 in
/-- The scores a scan is given, as a function of the arguments. -/
theorem entry_after : entryContents preI m c (Proc.devRef .tc main_v81_1) = Step.A_main_v73 (m ((c.tc : Thread nD τ).loc main_arg0)) (m ((c.tc : Thread nD τ).loc main_arg1)) := by
  simp only [entryContents, afterL_cons, afterL_nil]; after_reads_simp
  rw [pair_congr (early_69 m c) (early_70 m c)]
  refine (id_eq _).trans ?_
  unfold Step.A_main_v73
  refine congrArg (fun y => transpose S509x16x255 [1, 0, 2] y transposes_S16x509x255_S509x16x255_1_0_2) ?_
  unfold Step.A_main_v72
  have h1 : broadcastInDim S16x509x255 ![] bcast_S_S16x509x255 (constant S_ .f32 4286578688#32) = Step.K_main_v58 (F := F) := rfl
  have h2 : concatenate S255x255x2 2 [⟨S255x255x1, (Step.K_main_v69 (F := F))⟩, ⟨S255x255x1, (Step.K_main_v70 (F := F))⟩] concatenates_S255x255x1_S255x255x1_S255x255x2_d2 = Step.K_main_v71 (F := F) := rfl
  rw [h1, h2]
  refine congrArg (fun y => Host.scatter scatter_S16x509x255_S255x255x2_S16x255x255_0_12_12_2 (fun _ b => b) (Step.K_main_v58 (F := F)) (Step.K_main_v71 (F := F)) y) ?_
  unfold Step.A_main_v39
  refine congrArg (fun y : (⟨S16x256x256, .f32⟩ : BufTy).Contents (Elt F) => extractStridedSlice S16x255x255 ![0, 1, 1] y slices_S16x256x256_S16x255x255_0_1_1) ?_
  unfold Step.A_main_v3
  refine congrArg (fun y => Host.dotGeneral dot_S16x256x4_S16x256x4_S16x256x256_2_2_1_1_0_0 none (m ((c.tc : Thread nD τ).loc main_arg0)) y) ?_
  rfl

set_option maxRecDepth 65536 in
set_option maxHeartbeats 500000 in
/-- The entry value of the array of turns. -/
theorem entry_flags : entryContents preI m c (Proc.devRef .tc main_v81_2) = Step.K_main_v78 (F := F) := by
  simp only [entryContents, afterL_cons, afterL_nil]; after_reads_simp; rfl

set_option maxRecDepth 65536 in
set_option maxHeartbeats 500000 in
/-- The entry value of the weights of the step to the right. -/
theorem entry_even : entryContents preI m c (Proc.devRef .tc main_v81_3) = Step.K_main_v0 (F := F) := by
  simp only [entryContents, afterL_cons, afterL_nil]; after_reads_simp; rfl

set_option maxRecDepth 65536 in
set_option maxHeartbeats 500000 in
/-- The entry value of the weights of the step down. -/
theorem entry_down : entryContents preI m c (Proc.devRef .tc main_v81_4) = Step.K_main_v1 (F := F) := by
  simp only [entryContents, afterL_cons, afterL_nil]; after_reads_simp; rfl

set_option maxRecDepth 65536 in
set_option maxHeartbeats 500000 in
/-- The entry value of the counter. -/
theorem entry_count : entryContents preI m c (Proc.devRef .tc main_v81_5) = constantI S_ 32 (BitVec.ofNat 32 0) := by
  simp only [entryContents, afterL_cons, afterL_nil]; after_reads_simp; rfl

set_option maxRecDepth 65536 in
set_option maxHeartbeats 500000 in
/-- The entry value of the carried layers. -/
theorem entry_carry : entryContents preI m c (Proc.devRef .tc main_v81_6) = Step.K_main_v79 (F := F) := by
  simp only [entryContents, afterL_cons, afterL_nil]; after_reads_simp; rfl

set_option maxRecDepth 65536 in
set_option maxHeartbeats 500000 in
/-- The entry value of the array of ends. -/
theorem entry_ends : entryContents preI m c (Proc.devRef .tc main_v81_7) = Step.K_main_v80 (F := F) := by
  simp only [entryContents, afterL_cons, afterL_nil]; after_reads_simp; rfl

end SwRef

end
-- ==== Proof.RefFinal.lean ====
/- The reference's result over the extended reals: minus the mean, over the batch, of the logarithms of the sums over all
   alignments. -/
module

public import Idealize.ShloMosaic.Lib.IdealHost
public import proofs.«01_k».proof.Proof.RefCells
public import proofs.«01_k».proof.Proof.RefEntry

@[expose] public section

noncomputable section

namespace SwRef

open Idealize.ShloMosaic Idealize.ShloMosaic.ValueIdx Idealize.ShloMosaic.TcCoe Idealize.SL.Sem Idealize.ShloMosaic.StableHlo SwSpec
open Cert.ReferenceIdeal Cert.ReferenceIdeal.Gen Cert.ReferenceIdeal.Value

/-- The state before the first trip. -/
theorem At.start {P : Fin 16 → ℕ → Fin 4 → ℝ} {σ : Fin 16 → ℕ → Fin 4} (m : (ℓ : Loc nD τ sig) → Buf (Elt Ideal) ℓ) (c : Dev nD)
    (G : Given (m ((c.tc : Thread nD τ).loc main_arg0)) (m ((c.tc : Thread nD τ).loc main_arg1)) P σ) :
    At (SwModel.pairs P σ) 0 (entryContents preI m c) where
  heres d b k := (congrArg (fun y : FVec Ideal S509x16x255 .f32 => (y (ix3 d b k) : EReal)) (entry_here m c)).trans (here_apply G d b k)
  afters d b k := (congrArg (fun y : FVec Ideal S509x16x255 .f32 => (y (ix3 d b k) : EReal)) (entry_after m c)).trans (after_apply G d b k)
  turns d := (congrArg (fun y : IVec S509 32 => y (ix1 d)) (entry_flags m c)).trans (turn_apply d)
  opens := (congrArg (fun y : FVec Ideal S_ .f32 => (y ix0 : EReal)) (entry_even m c)).trans open_score
  extend := (congrArg (fun y : FVec Ideal S_ .f32 => (y ix0 : EReal)) (entry_down m c)).trans extend_score
  count := entry_count m c
  new b k r _ := by
    refine ((congrArg (fun y : FVec Ideal S2x16x255x3 .f32 => (y (ix4 1 b k r) : EReal)) (entry_carry m c)).trans (empty_apply _)).trans ?_
    rw [kinds_zero _ 0 _ (by omega), lg_zero]
  old b k r _ := by
    refine ((congrArg (fun y : FVec Ideal S2x16x255x3 .f32 => (y (ix4 0 b k r) : EReal)) (entry_carry m c)).trans (empty_apply _)).trans ?_
    rw [kinds_zero _ 0 _ (by omega), lg_zero]
  ends d hd := absurd hd (Nat.not_lt_zero _)

/-- A number for each batch entry, as an array of the result's rank. -/
def column (y : FVec Ideal S16 .f32) : FVec Ideal S1x16x1x1 .f32 := broadcastInDim S1x16x1x1 ![1] bcast_S16_S1x16x1x1_1 y

theorem column_apply (y : FVec Ideal S16 .f32) (b : Fin 16) : column y (ix4 0 b 0 0) = y (ix1 b) :=
  broadcastInDim_apply _ _ _ _ _ (by intro a; fin_cases a; rfl)

/-- The largest end of each batch entry. -/
def peaks (x : FVec Ideal S509x16x255x3 .f32) : FVec Ideal S1x16x1x1 .f32 :=
  column (Host.reduce FloatOps.maximumf x (constant S_ .f32 0xFF800000#32) reducesTo_S509x16x255x3_S16_d0_2_3 h_S_)

/-- The exponentials of the ends less the largest. -/
def powers (x : FVec Ideal S509x16x255x3 .f32) : FVec Ideal S509x16x255x3 .f32 :=
  Host.exp (subf x (broadcastInDim S509x16x255x3 ![0, 1, 2, 3] bcast_S1x16x1x1_S509x16x255x3_0_1_2_3 (peaks x)))

/-- The logarithm of the sum of the ends' exponentials, for each batch entry. -/
def closing (x : FVec Ideal S509x16x255x3 .f32) : FVec Ideal S1x16x1x1 .f32 :=
  addf (Host.log (column (Host.reduceAdd (powers x) (constant S_ .f32 0x00000000#32) reducesTo_S509x16x255x3_S16_d0_2_3 h_S_))) (peaks x)

theorem out_eq (V : Valuation τ sig (Elt Ideal)) : out_main_v93 V
    = Host.negf (Host.divf (Host.reduceAdd (closing (ends V)) (constant S_ .f32 0x00000000#32) reducesTo_S1x16x1x1_S_d0_1_2_3 h_S_)
        (constant S_ .f32 0x41800000#32)) := by
  unfold out_main_v93
  rfl

theorem peaks_apply (x : FVec Ideal S509x16x255x3 .f32) (b : Fin 16) :
    peaks x (ix4 0 b 0 0) = (fiber b).fold max ⊥ (fun i => (x i : EReal)) := by
  unfold peaks
  rw [column_apply]
  refine (Host.reduce_eq_fold FloatOps.maximumf x _ reducesTo_S509x16x255x3_S16_d0_2_3 h_S_ (ix1 b)).trans ?_
  have e : (constant S_ .f32 0xFF800000#32 : FVec Ideal S_ .f32) (Shape.Idx.first h_S_) = (⊥ : EReal) := low_word
  rw [e]
  rfl

theorem powers_apply (x : FVec Ideal S509x16x255x3 .f32) (b : Fin 16) (i : S509x16x255x3.Idx) (hi : i ∈ fiber b) :
    powers x i = Idealize.ShloMosaic.Ideal.exp (x i - peaks x (ix4 0 b 0 0)) := by
  have h := (mem_fiber b i).1 hi
  have e : broadcastInDim S509x16x255x3 ![0, 1, 2, 3] bcast_S1x16x1x1_S509x16x255x3_0_1_2_3 (peaks x) i = peaks x (ix4 0 b 0 0) := by
    refine broadcastInDim_apply _ _ _ _ _ fun a => ?_
    match a with
    | ⟨0, _⟩ => rfl
    | ⟨1, _⟩ => exact (congrArg Fin.val h).symm
    | ⟨2, _⟩ => rfl
    | ⟨3, _⟩ => rfl
  rw [← e]
  rfl

theorem total_apply (y : FVec Ideal S509x16x255x3 .f32) (b : Fin 16) :
    (Host.reduceAdd y (constant S_ .f32 0x00000000#32) reducesTo_S509x16x255x3_S16_d0_2_3 h_S_ : FVec Ideal S16 .f32) (ix1 b)
      = ∑ i ∈ fiber b, (y i : EReal) := by
  have e : (constant S_ .f32 0x00000000#32 : FVec Ideal S_ .f32) (Shape.Idx.first h_S_) = (0 : EReal) := nil_word
  show (constant S_ .f32 0x00000000#32 : FVec Ideal S_ .f32) (Shape.Idx.first h_S_) + ∑ i ∈ fiber b, (y i : EReal) = _
  rw [e, zero_add]

theorem closing_apply (x : FVec Ideal S509x16x255x3 .f32) (b : Fin 16) :
    closing x (ix4 0 b 0 0) = Idealize.ShloMosaic.Ideal.log (∑ i ∈ fiber b, Idealize.ShloMosaic.Ideal.exp (x i - peaks x (ix4 0 b 0 0)))
      + peaks x (ix4 0 b 0 0) := by
  rw [← Finset.sum_congr rfl fun i hi => powers_apply x b i hi, ← total_apply (powers x) b, ← column_apply (Host.reduceAdd (powers x) _ _ _) b]
  rfl

/-- A batch entry's closing value. -/
theorem closing_log {X : Fin 16 → ℕ → ℕ → ℝ} {V : Valuation τ sig (Elt Ideal)} (H : At X 509 V) (b : Fin 16) :
    (closing (ends V) (ix4 0 b 0 0) : EReal) = ((Real.log (whole (X b)) : ℝ) : EReal) := by
  have hx : ∀ i ∈ fiber b, (ends V i : EReal) = lg (weight (X b) (i 0) (i 2) (i 3)) := by
    intro i hi
    have h := (mem_fiber b i).1 hi
    have h0 : (i 0 : Fin 509).val < 509 := (i 0 : Fin 509).isLt
    have e : i = ix4 (i 0) b (i 2) (i 3) := by rw [← h]; exact eq_ix4 i
    exact (congrArg (SwRef.ends V) e).trans (H.ends (i 0) h0 b (i 2) (i 3))
  have hp := peaks_apply (SwRef.ends V) b
  have htop : (peaks (ends V) (ix4 0 b 0 0) : EReal) ≠ ⊤ := by
    rw [hp]
    exact fold_max_ne_top _ _ fun i hi => by rw [hx i hi]; exact lg_ne_top _
  have hbot : (peaks (ends V) (ix4 0 b 0 0) : EReal) ≠ ⊥ := fun h => by
    have hm : (ix4 0 b 127 0 : S509x16x255x3.Idx) ∈ fiber b := (mem_fiber b _).2 rfl
    have hl := le_fold_max (fiber b) (fun i => (ends V i : EReal)) _ hm
    rw [← hp, h, hx _ hm] at hl
    have hw : lg (weight (X b) 0 127 0) ≤ ⊥ := hl
    rw [lg_pos (weight_first (X b))] at hw
    exact EReal.coe_ne_bot _ (le_bot_iff.mp hw)
  obtain ⟨p, hpr⟩ : ∃ p : ℝ, (peaks (ends V) (ix4 0 b 0 0) : EReal) = (p : EReal) := ⟨_, (EReal.coe_toReal htop hbot).symm⟩
  rw [closing_apply, hpr, Finset.sum_congr rfl fun i hi => by rw [hx i hi],
    lse (fiber b) (fun i => weight (X b) (i 0) (i 2) (i 3)) (fun i _ => weight_nonneg _ _ _ _) p, fiber_sum, lg_pos (whole_pos _)]

/-- The result's batch entries. -/
theorem entries_sum (y : S1x16x1x1.Idx → EReal) : ∑ i : S1x16x1x1.Idx, y i = ∑ b : Fin 16, y (ix4 0 b 0 0) := by
  symm
  refine Finset.sum_nbij (fun b => ix4 0 b 0 0) ?_ ?_ ?_ ?_
  · intro b _
    exact Finset.mem_univ _
  · intro b _ b' _ h
    exact congrArg (fun i : S1x16x1x1.Idx => (i 1 : Fin 16)) h
  · intro i _
    rw [Finset.coe_univ, Set.image_univ]
    refine ⟨i 1, ?_⟩
    funext a
    match a with
    | ⟨0, _⟩ => exact (Fin.eq_zero (i 0 : Fin 1)).symm
    | ⟨1, _⟩ => rfl
    | ⟨2, _⟩ => exact (Fin.eq_zero (i 2 : Fin 1)).symm
    | ⟨3, _⟩ => exact (Fin.eq_zero (i 3 : Fin 1)).symm
  · intro b _
    rfl

theorem sixteen_word : (FloatOps.ofBits .f32 0x41800000#32 : Ideal .f32) = ((16 : ℝ) : EReal) := by
  show Idealize.ShloMosaic.Ideal.ofBits .f32 0x41800000#32 = _
  simp [Idealize.ShloMosaic.Ideal.ofBits, Idealize.ShloMosaic.Ideal.ieee, -EReal.coe_mul]; norm_num

/-- The reference's result. -/
theorem out_apply {X : Fin 16 → ℕ → ℕ → ℝ} {V : Valuation τ sig (Elt Ideal)} (H : At X 509 V) (j : S_.Idx) :
    (out_main_v93 V : FVec Ideal S_ .f32) j = ((-(∑ b : Fin 16, Real.log (whole (X b))) / 16 : ℝ) : EReal) := by
  have e0 : (constant S_ .f32 0x00000000#32 : FVec Ideal S_ .f32) (Shape.Idx.first h_S_) = (0 : EReal) := nil_word
  have es : (Host.reduceAdd (closing (ends V)) (constant S_ .f32 0x00000000#32) reducesTo_S1x16x1x1_S_d0_1_2_3 h_S_ : FVec Ideal S_ .f32) j
      = ((∑ b : Fin 16, Real.log (whole (X b)) : ℝ) : EReal) := by
    refine (Idealize.ShloMosaic.Ideal.hostReduceAdd_total reducesTo_S1x16x1x1_S_d0_1_2_3 (fun b => b.elim0) (closing (ends V)) _ j).trans ?_
    rw [e0, zero_add, entries_sum, coe_sum]
    exact Finset.sum_congr rfl fun b _ => closing_log H b
  rw [out_eq]
  show -(Idealize.ShloMosaic.Ideal.div ((Host.reduceAdd (closing (ends V)) (constant S_ .f32 0x00000000#32) reducesTo_S1x16x1x1_S_d0_1_2_3 h_S_ : FVec Ideal S_ .f32) j)
    (FloatOps.ofBits (F := Ideal) .f32 0x41800000#32)) = _
  rw [es, sixteen_word]
  unfold Idealize.ShloMosaic.Ideal.div
  rw [if_neg (by norm_cast), ← EReal.coe_inv, ← EReal.coe_mul, ← EReal.coe_neg]
  congr 1
  ring

end SwRef

end
-- ==== Proof.Inputs.lean ====
/- What the precondition says of the arguments: the scores are real numbers and the letters are among the four. -/
module

public import proofs.«01_k».proof.Pre_finite_and_in_range
public import Idealize.ShloMosaic.Lib.IdealHost
public import Idealize.ShloMosaic.Lib.ValueIdxCore
public import proofs.«01_k».proof.Proof.RefLse

@[expose] public section

noncomputable section

namespace SwInputs

open Idealize.ShloMosaic Cert.Pre_finite_and_in_range

/-- The precondition's shape relations. -/
theorem facts : Cert.Pre_finite_and_in_range.Facts := ⟨by decide, by decide⟩

theorem top_word : (FloatOps.ofBits .f32 0x7F800000#32 : Ideal .f32) = (⊤ : EReal) := by
  show Idealize.ShloMosaic.Ideal.ofBits .f32 0x7F800000#32 = _
  simp [Idealize.ShloMosaic.Ideal.ofBits, Idealize.ShloMosaic.Ideal.ieee]

/-- A bit made from a truth value is one only when it is true. -/
theorem true_of_bit {b : Bool} (h : BitVec.ofBool b = 1#1) : b = true := by
  cases b
  · exact absurd h (by decide)
  · rfl

/-- Both of two bits are one when their conjunction is. -/
theorem both_of_and {a b : BitVec 1} (h : a &&& b = 1#1) : a = 1#1 ∧ b = 1#1 := by
  revert a b
  decide

/-- A number whose absolute value is below infinity is real. -/
theorem real_of_small (y : EReal) (h : max y (-y) < ⊤) : ∃ r : ℝ, y = (r : EReal) := by
  induction y using EReal.rec with
  | bot => simp at h
  | coe r => exact ⟨r, rfl⟩
  | top => simp at h

/-- A word from zero to three, signed, is one of the four. -/
theorem letter_of_word (w : BitVec 32) (h : (0#32).sle w = true) (h' : w.slt 4#32 = true) : ∃ k : Fin 4, w = BitVec.ofNat 32 k.val := by
  have e : (4#32).toInt = 4 := by decide
  have e0 : (0#32).toInt = 0 := by decide
  have a : 0 ≤ w.toInt := by
    have := of_decide_eq_true h
    omega
  have b : w.toInt < 4 := by
    have := of_decide_eq_true h'
    omega
  have hw := w.isLt
  have c : w.toNat < 4 := by
    rw [BitVec.toInt_eq_toNat_cond] at a b
    split at a <;> omega
  refine ⟨⟨w.toNat, c⟩, ?_⟩
  exact BitVec.eq_of_toNat_eq (by simp)

variable [hP : Cert.Pre_finite_and_in_range.Facts] {x : FVec Ideal S16x256x4 .f32} {t : IVec S16x256 32}

theorem score_real (h : (fn (F := Ideal) x t).1 = fun _ => 1#1) (i : S16x256x4.Idx) : ∃ r : ℝ, x i = (r : EReal) := by
  have hi : FloatOps.cmpf (F := Ideal) .olt (max (x i : EReal) (-x i)) (FloatOps.ofBits .f32 0x7F800000#32) = 1#1 := congrFun h i
  rw [top_word] at hi
  exact real_of_small _ (of_decide_eq_true (true_of_bit hi))

theorem letter_small (h : (fn (F := Ideal) x t).2 = fun _ => 1#1) (i : S16x256.Idx) : ∃ k : Fin 4, t i = BitVec.ofNat 32 k.val := by
  have hi : BitVec.ofBool ((0#32).sle (t i)) &&& BitVec.ofBool ((t i).slt 4#32) = 1#1 := congrFun h i
  obtain ⟨a, b⟩ := both_of_and hi
  exact letter_of_word _ (true_of_bit a) (true_of_bit b)

/-- The scores and the letters the arguments hold. -/
theorem parts (h : (fn (F := Ideal) x t).1 = fun _ => 1#1) (h' : (fn (F := Ideal) x t).2 = fun _ => 1#1) :
    ∃ (P : Fin 16 → ℕ → Fin 4 → ℝ) (σ : Fin 16 → ℕ → Fin 4),
      (∀ b (s : Fin 256) k, x (ValueIdx.ix3 b s k) = ((P b s.val k : ℝ) : EReal))
      ∧ ∀ b (l : Fin 256), t (ValueIdx.ix2 b l) = BitVec.ofNat 32 (σ b l.val).val := by
  choose r hr using score_real h
  choose k hk using letter_small h'
  refine ⟨fun b s c => if e : s < 256 then r (ValueIdx.ix3 b ⟨s, e⟩ c) else 0, fun b l => if e : l < 256 then k (ValueIdx.ix2 b ⟨l, e⟩) else 0,
    fun b s c => ?_, fun b l => ?_⟩
  · beta_reduce
    rw [dif_pos s.isLt]
    exact hr _
  · beta_reduce
    rw [dif_pos l.isLt]
    exact hk _

end SwInputs

end
-- ==== Proof.lean ====
/- The proof of the certificate's claim: every part is proved in the modules imported here. -/
module

public import proofs.«01_k».proof.Defs
public import proofs.«01_k».proof.Proof.RunKernel
public import proofs.«01_k».proof.Proof.KernelValue
public import proofs.«01_k».proof.Proof.RefFinal
public import proofs.«01_k».proof.Proof.Inputs

@[expose] public section

noncomputable section

namespace Cert.Proof

open Idealize.ShloMosaic Idealize.SL.Sem

/-- The reference ends with its arguments as they were; it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The two programs' results are the same number: minus the mean of the logarithms of the sums over all alignments. -/
theorem values_agree : algebraic_KernelIdeal_ReferenceIdeal_pre_finite_and_in_range (hKernelIdeal := Cert.KernelIdeal.Gen.facts)
    (hReferenceIdeal := Cert.ReferenceIdeal.Gen.facts) (hPre_finite_and_in_range := SwInputs.facts) := by
  intro m g m' g' hpre hagree
  refine ⟨_, KernelIdeal.outcome (F := Ideal) m g, ?_⟩
  refine (θ_run Cert.ReferenceIdeal.defs _ _).mono (fun r h c => ⟨(h c).1.trans ?_, (h c).2⟩) (Cert.ReferenceIdeal.Value.run (F := Ideal) m' g')
  obtain ⟨P, σ, hx, ht⟩ := SwInputs.parts (hP := SwInputs.facts) (hpre c).1 (hpre c).2
  obtain ⟨e, e'⟩ := hagree c
  have G : SwRef.Given (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) P σ :=
    ⟨fun b s k => by rw [e]; exact hx b s k, fun b l => by rw [e']; exact ht b l⟩
  funext j
  refine (SwRef.out_apply ((SwRef.At.start m' c G).run 509 le_rfl) j).trans ?_
  exact (KernelIdeal.final_apply m c hx ht j).symm

/-- The claim. -/
theorem claim : Cert.Claim :=
  ⟨Cert.Kernel.Gen.facts, Cert.KernelIdeal.Gen.facts, Cert.ReferenceIdeal.Gen.facts, SwInputs.facts,
    fun m g _ => Kernel.frame m g, fun m g _ => KernelIdeal.frame m g, fun m g _ => KernelIdeal.frame m g,
    fun m g _ => reference_frame m g, fun m g _ => reference_frame m g,
    IdealRules.named_const.statement _ _ _ _ _ rfl, values_agree⟩

end Cert.Proof

end
